-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31_0) = v0 c
          ∧ r.2.mem ((c.tc : Thread Cert.ReferenceIdeal.nD Cert.ReferenceIdeal.τ).loc Cert.ReferenceIdeal.main_v31_1) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x27648 : Shape := ⟨3, ![2, 6144, 27648]⟩
abbrev S27648x5120 : Shape := ⟨2, ![27648, 5120]⟩
abbrev S5120 : Shape := ⟨1, ![5120]⟩
abbrev S256x256 : Shape := ⟨2, ![256, 256]⟩
abbrev S12288x27648 : Shape := ⟨2, ![12288, 27648]⟩
abbrev S12288x1 : Shape := ⟨2, ![12288, 1]⟩
abbrev S64x27648 : Shape := ⟨2, ![64, 27648]⟩
abbrev S64x1 : Shape := ⟨2, ![64, 1]⟩
abbrev S64x256 : Shape := ⟨2, ![64, 256]⟩
abbrev S64 : Shape := ⟨1, ![64]⟩
abbrev S1x5120 : Shape := ⟨2, ![1, 5120]⟩
abbrev S12288x5120 : Shape := ⟨2, ![12288, 5120]⟩
abbrev S1024x1024 : Shape := ⟨2, ![1024, 1024]⟩
abbrev S1024x1 : Shape := ⟨2, ![1024, 1]⟩
abbrev S1x1024 : Shape := ⟨2, ![1, 1024]⟩
abbrev S2x6144x5120 : Shape := ⟨3, ![2, 6144, 5120]⟩
abbrev S2x6144x1 : Shape := ⟨3, ![2, 6144, 1]⟩

abbrev nBuf : Space → Nat
  | .hbm => 14
  | .vmem => 21
  | .smem => 0
  | _ => 0

abbrev bufTy : (tb : Table) → Fin (tcTables nBuf tb) → BufTy
  | .hbm, ⟨0, _⟩ => ⟨S2x6144x27648, .bf16⟩
  | .hbm, ⟨1, _⟩ => ⟨S27648x5120, .i8⟩
  | .hbm, ⟨2, _⟩ => ⟨S5120, .f32⟩
  | .hbm, ⟨3, _⟩ => ⟨S5120, .f32⟩
  | .hbm, ⟨4, _⟩ => ⟨S256x256, .bf16⟩
  | .hbm, ⟨5, _⟩ => ⟨S12288x27648, .bf16⟩
  | .hbm, ⟨6, _⟩ => ⟨S12288x27648, .i8⟩
  | .hbm, ⟨7, _⟩ => ⟨S12288x1, .f32⟩
  | .hbm, ⟨8, _⟩ => ⟨S1x5120, .f32⟩
  | .hbm, ⟨9, _⟩ => ⟨S1x5120, .f32⟩
  | .hbm, ⟨10, _⟩ => ⟨S12288x5120, .bf16⟩
  | .hbm, ⟨11, _⟩ => ⟨S2x6144x5120, .bf16⟩
  | .hbm, ⟨12, _⟩ => ⟨S2x6144x27648, .i8⟩
  | .hbm, ⟨13, _⟩ => ⟨S2x6144x1, .f32⟩
  | .local _ .vmem, ⟨0, _⟩ => ⟨S64x27648, .bf16⟩
  | .local _ .vmem, ⟨1, _⟩ => ⟨S64x27648, .bf16⟩
  | .local _ .vmem, ⟨2, _⟩ => ⟨S256x256, .bf16⟩
  | .local _ .vmem, ⟨3, _⟩ => ⟨S64x27648, .i8⟩
  | .local _ .vmem, ⟨4, _⟩ => ⟨S64x27648, .i8⟩
  | .local _ .vmem, ⟨5, _⟩ => ⟨S64x1, .f32⟩
  | .local _ .vmem, ⟨6, _⟩ => ⟨S64x1, .f32⟩
  | .local _ .vmem, ⟨7, _⟩ => ⟨S64x27648, .f32⟩
  | .local _ .vmem, ⟨8, _⟩ => ⟨S1024x1024, .i8⟩
  | .local _ .vmem, ⟨9, _⟩ => ⟨S1024x1024, .i8⟩
  | .local _ .vmem, ⟨10, _⟩ => ⟨S1024x1024, .i8⟩
  | .local _ .vmem, ⟨11, _⟩ => ⟨S1024x1024, .i8⟩
  | .local _ .vmem, ⟨12, _⟩ => ⟨S1024x1, .f32⟩
  | .local _ .vmem, ⟨13, _⟩ => ⟨S1024x1, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .i32⟩
  | _, _ => ⟨S2x6144x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x27648 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x27648 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![12, 5, 27], ![false, false, false]⟩

def k1_cond3 (i : grid1.Coords) : BitVec 1 :=
  let arg2 : BitVec 32 := BitVec.ofNat 32 (i 2).val
  let c26_i32 : BitVec 32 := 26#32
  let v10 : BitVec 1 := Scalar.cmpi .eq arg2 c26_i32
  let v11 : BitVec 32 := Scalar.extui v10
  let c0_i32_6 : BitVec 32 := 0#32
  let v12 : BitVec 1 := Scalar.cmpi .ne v11 c0_i32_6
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]
-- ==== ReferenceIdeal.lean ====
abbrev S2x6144x27648 : Shape := ⟨3, ![2, 6144, 27648]⟩
abbrev S27648x5120 : Shape := ⟨2, ![27648, 5120]⟩
abbrev S5120 : Shape := ⟨1, ![5120]⟩
abbrev S_ : Shape := ⟨0, ![]⟩
abbrev S1x1 : Shape := ⟨2, ![1, 1]⟩
abbrev S1x2 : Shape := ⟨2, ![1, 2]⟩
abbrev S2x2 : Shape := ⟨2, ![2, 2]⟩
abbrev S2x4 : Shape := ⟨2, ![2, 4]⟩
abbrev S4x4 : Shape := ⟨2, ![4, 4]⟩
abbrev S4x8 : Shape := ⟨2, ![4, 8]⟩
abbrev S8x8 : Shape := ⟨2, ![8, 8]⟩
abbrev S8x16 : Shape := ⟨2, ![8, 16]⟩
abbrev S16x16 : Shape := ⟨2, ![16, 16]⟩
abbrev S16x32 : Shape := ⟨2, ![16, 32]⟩
abbrev S32x32 : Shape := ⟨2, ![32, 32]⟩
abbrev S32x64 : Shape := ⟨2, ![32, 64]⟩
abbrev S64x64 : Shape := ⟨2, ![64, 64]⟩
abbrev S64x128 : Shape := ⟨2, ![64, 128]⟩
abbrev S128x128 : Shape := ⟨2, ![128, 128]⟩
abbrev S2x6144x216x128 : Shape := ⟨4, ![2, 6144, 216, 128]⟩
abbrev S2x6144 : Shape := ⟨2, ![2, 6144]⟩
abbrev S2x6144x1 : Shape := ⟨3, ![2, 6144, 1]⟩
abbrev S1x1x5120 : Shape := ⟨3, ![1, 1, 5120]⟩
abbrev S2x6144x5120 : Shape := ⟨3, ![2, 6144, 5120]⟩
abbrev S2x6144x27648x1 : Shape := ⟨4, ![2, 6144, 27648, 1]⟩
abbrev S1x1x27648x5120 : Shape := ⟨4, ![1, 1, 27648, 5120]⟩
abbrev S2x6144x27648x5120 : Shape := ⟨4, ![2, 6144, 27648, 5120]⟩

abbrev nBuf : Space → Nat
  | .hbm => 59
  | .vmem => 7
  | .smem => 0
  | _ => 0

abbrev bufTy : (tb : Table) → Fin (tcTables nBuf tb) → BufTy
  | .hbm, ⟨0, _⟩ => ⟨S2x6144x27648, .bf16⟩
  | .hbm, ⟨1, _⟩ => ⟨S27648x5120, .i8⟩
  | .hbm, ⟨2, _⟩ => ⟨S5120, .f32⟩
  | .hbm, ⟨3, _⟩ => ⟨S5120, .f32⟩
  | .hbm, ⟨4, _⟩ => ⟨S2x6144x27648, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S1x2, .f32⟩
  | .hbm, ⟨9, _⟩ => ⟨S1x2, .f32⟩
  | .hbm, ⟨10, _⟩ => ⟨S2x2, .f32⟩
  | .hbm, ⟨11, _⟩ => ⟨S2x2, .f32⟩
  | .hbm, ⟨12, _⟩ => ⟨S2x4, .f32⟩
  | .hbm, ⟨13, _⟩ => ⟨S2x4, .f32⟩
  | .hbm, ⟨14, _⟩ => ⟨S4x4, .f32⟩
  | .hbm, ⟨15, _⟩ => ⟨S4x4, .f32⟩
  | .hbm, ⟨16, _⟩ => ⟨S4x8, .f32⟩
  | .hbm, ⟨17, _⟩ => ⟨S4x8, .f32⟩
  | .hbm, ⟨18, _⟩ => ⟨S8x8, .f32⟩
  | .hbm, ⟨19, _⟩ => ⟨S8x8, .f32⟩
  | .hbm, ⟨20, _⟩ => ⟨S8x16, .f32⟩
  | .hbm, ⟨21, _⟩ => ⟨S8x16, .f32⟩
  | .hbm, ⟨22, _⟩ => ⟨S16x16, .f32⟩
  | .hbm, ⟨23, _⟩ => ⟨S16x16, .f32⟩
  | .hbm, ⟨24, _⟩ => ⟨S16x32, .f32⟩
  | .hbm, ⟨25, _⟩ => ⟨S16x32, .f32⟩
  | .hbm, ⟨26, _⟩ => ⟨S32x32, .f32⟩
  | .hbm, ⟨27, _⟩ => ⟨S32x32, .f32⟩
  | .hbm, ⟨28, _⟩ => ⟨S32x64, .f32⟩
  | .hbm, ⟨29, _⟩ => ⟨S32x64, .f32⟩
  | .hbm, ⟨30, _⟩ => ⟨S64x64, .f32⟩
  | .hbm, ⟨31, _⟩ => ⟨S64x64, .f32⟩
  | .hbm, ⟨32, _⟩ => ⟨S64x128, .f32⟩
  | .hbm, ⟨33, _⟩ => ⟨S64x128, .f32⟩
  | .hbm, ⟨34, _⟩ => ⟨S128x128, .f32⟩
  | .hbm, ⟨35, _⟩ => ⟨S_, .f32⟩
  | .hbm, ⟨36, _⟩ => ⟨S128x128, .f32⟩
  | .hbm, ⟨37, _⟩ => ⟨S128x128, .f32⟩
  | .hbm, ⟨38, _⟩ => ⟨S2x6144x216x128, .f32⟩
  | .hbm, ⟨39, _⟩ => ⟨S2x6144x216x128, .f32⟩
  | .hbm, ⟨40, _⟩ => ⟨S2x6144x27648, .f32⟩
  | .hbm, ⟨41, _⟩ => ⟨S2x6144x27648, .f32⟩
  | .hbm, ⟨42, _⟩ => ⟨S_, .f32⟩
  | .hbm, ⟨43, _⟩ => ⟨S2x6144, .f32⟩
  | .hbm, ⟨44, _⟩ => ⟨S2x6144x1, .f32⟩
  | .hbm, ⟨45, _⟩ => ⟨S_, .f32⟩
  | .hbm, ⟨46, _⟩ => ⟨S2x6144x1, .f32⟩
  | .hbm, ⟨47, _⟩ => ⟨S2x6144x1, .i1⟩
  | .hbm, ⟨48, _⟩ => ⟨S_, .f32⟩
  | .hbm, ⟨49, _⟩ => ⟨S2x6144x1, .f32⟩
  | .hbm, ⟨50, _⟩ => ⟨S2x6144x1, .f32⟩
  | .hbm, ⟨51, _⟩ => ⟨S_, .f32⟩
  | .hbm, ⟨52, _⟩ => ⟨S_, .f32⟩
  | .hbm, ⟨53, _⟩ => ⟨S2x6144x1, .f32⟩
  | .hbm, ⟨54, _⟩ => ⟨S2x6144x1, .f32⟩
  | .hbm, ⟨55, _⟩ => ⟨S1x1x5120, .f32⟩
  | .hbm, ⟨56, _⟩ => ⟨S1x1x5120, .f32⟩
  | .hbm, ⟨57, _⟩ => ⟨S2x6144x5120, .bf16⟩
  | .hbm, ⟨58, _⟩ => ⟨S2x6144x27648, .i8⟩
  | .local _ .vmem, ⟨0, _⟩ => ⟨S2x6144x27648, .f32⟩
  | .local _ .vmem, ⟨1, _⟩ => ⟨S27648x5120, .i8⟩
  | .local _ .vmem, ⟨2, _⟩ => ⟨S2x6144x1, .f32⟩
  | .local _ .vmem, ⟨3, _⟩ => ⟨S1x1x5120, .f32⟩
  | .local _ .vmem, ⟨4, _⟩ => ⟨S1x1x5120, .f32⟩
  | .local _ .vmem, ⟨5, _⟩ => ⟨S2x6144x5120, .bf16⟩
  | .local _ .vmem, ⟨6, _⟩ => ⟨S2x6144x27648, .i8⟩
  | _, _ => ⟨S2x6144x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_v6 : Ref sig .tc := ⟨.hbm, 15, rfl⟩
abbrev main_call2_v0 : Ref sig .tc := ⟨.hbm, 16, rfl⟩
abbrev main_call2_v1 : Ref sig .tc := ⟨.hbm, 17, rfl⟩
abbrev main_v7 : Ref sig .tc := ⟨.hbm, 18, rfl⟩
abbrev main_v8 : Ref sig .tc := ⟨.hbm, 19, rfl⟩
abbrev main_call3_v0 : Ref sig .tc := ⟨.hbm, 20, rfl⟩
abbrev main_call3_v1 : Ref sig .tc := ⟨.hbm, 21, rfl⟩
abbrev main_v9 : Ref sig .tc := ⟨.hbm, 22, rfl⟩
abbrev main_v10 : Ref sig .tc := ⟨.hbm, 23, rfl⟩
abbrev main_call4_v0 : Ref sig .tc := ⟨.hbm, 24, rfl⟩
abbrev main_call4_v1 : Ref sig .tc := ⟨.hbm, 25, rfl⟩
abbrev main_v11 : Ref sig .tc := ⟨.hbm, 26, rfl⟩
abbrev main_v12 : Ref sig .tc := ⟨.hbm, 27, rfl⟩
abbrev main_call5_v0 : Ref sig .tc := ⟨.hbm, 28, rfl⟩
abbrev main_call5_v1 : Ref sig .tc := ⟨.hbm, 29, rfl⟩
abbrev main_v13 : Ref sig .tc := ⟨.hbm, 30, rfl⟩
abbrev main_v14 : Ref sig .tc := ⟨.hbm, 31, rfl⟩
abbrev main_call6_v0 : Ref sig .tc := ⟨.hbm, 32, rfl⟩
abbrev main_call6_v1 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_1 : Ref sig .tc := ⟨.hbm, 42, rfl⟩
abbrev main_v22 : Ref sig .tc := ⟨.hbm, 43, rfl⟩
abbrev main_v23 : Ref sig .tc := ⟨.hbm, 44, rfl⟩
abbrev main_cst_2 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_call7_v0 : Ref sig .tc := ⟨.hbm, 52, rfl⟩
abbrev main_call7_v1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31_0 : Ref sig .tc := ⟨.hbm, 57, rfl⟩
abbrev main_v31_1 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x6144x27648 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S27648x5120 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x6144x27648 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Rotate.lean ====
/- The first call of the kernel, `cc0_rotate_quant`, at any contents of the buffers it is entered with:
  what one run of its body leaves in its two results, and the obligation the pipeline asks of the body. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the choice does not matter). -/
abbrev VO0_2 : View sig .tc .vmem S64x27648 .i8 := (Memref.whole cc0_stg2_0 : Memref sig .tc .vmem S64x27648 .i8).view
/-- One staging buffer of output window 3, through which its contents are stated (`View.read_writes_of_cover`: the choice does not matter). -/
abbrev VO0_3 : View sig .tc .vmem S64x1 .f32 := (Memref.whole cc0_stg3_0 : Memref sig .tc .vmem S64x1 .f32).view
/-- Each window's current staging memref at point `t`, spelled as the pipeline passes it (`bodyAt0`), and its wholeness. -/
abbrev ms0_0 (t : Fin cfg0.N) : Memref sig .tc .vmem S64x27648 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x27648 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S64x27648 .f32 := Memref.whole cc0_scratch0

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 4060000 in
/-- What the body's stores leave in each output's staging memref, as pieces (last first). -/
noncomputable def kernelRun0_A (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) :
    Σ' (L2 : List (View.Piece (Elt F) S64x27648 .i8)), Σ' (L3 : List (View.Piece (Elt F) S64x1 .f32)), { LT0 : List (View.Piece (Elt F) S64x27648 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc0_rotate_quant i arg1 harg1 arg2 harg2 arg3 harg3 arg4 harg4 arg5 harg5) K } := by
  refine ⟨?_, ?_, ?_, fun E K => ?run⟩
  case run =>
    simp only [cc0_rotate_quant_eq_skeleton]; unfold cc0_rotate_quant_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part68_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The run's pieces for output 2 tile its block, so they cover it. -/
theorem cover0_A_2 (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) (y : S64x27648.Idx) :
    ∃ pc ∈ (kernelRun0_A c i arg1 harg1 arg2 harg2 arg3 harg3 arg4 harg4 arg5 harg5 x0 x1).1, y ∈ pc.1.set :=
  View.cover_of_tiledL (kernelRun0_A c i arg1 harg1 arg2 harg2 arg3 harg3 arg4 harg4 arg5 harg5 x0 x1).1 S64x256.size (by sl_kernel_rfl) y

/-- What the run leaves in output 2's staging buffer: its pieces read back over junk. -/
def out0_A_2 (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) : Vec F S64x27648 .i8 :=
  VO0_2.read (Elt F) (VO0_2.writes (Elt F) VO0_2.junk (kernelRun0_A c i arg1 harg1 arg2 harg2 arg3 harg3 arg4 harg4 arg5 harg5 x0 x1).1)

/-- The run's pieces for output 3 tile its block, so they cover it. -/
theorem cover0_A_3 (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) (y : S64x1.Idx) :
    ∃ pc ∈ (kernelRun0_A c i arg1 harg1 arg2 harg2 arg3 harg3 arg4 harg4 arg5 harg5 x0 x1).2.1, y ∈ pc.1.set :=
  View.cover_of_tiledL (kernelRun0_A c i arg1 harg1 arg2 harg2 arg3 harg3 arg4 harg4 arg5 harg5 x0 x1).2.1 S64x1.size (by sl_kernel_rfl) y

/-- What the run leaves in output 3's staging buffer: its pieces read back over junk. -/
def out0_A_3 (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) : Vec F S64x1 .f32 :=
  VO0_3.read (Elt F) (VO0_3.writes (Elt F) VO0_3.junk (kernelRun0_A c i arg1 harg1 arg2 harg2 arg3 harg3 arg4 harg4 arg5 harg5 x0 x1).2.1)

/-! ## What the outputs hold after each point -/

/-- What the outputs' staging buffers hold after the body at point `t` (as a tuple, in window order): the run's contents at the point's memrefs and input blocks. -/
def outsAt0 (c : Dev nD) (t : Fin cfg0.N) : Vec F S64x27648 .i8 × Vec F S64x1 .f32 :=
  (out0_A_2 c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t))

/-! ## The pipeline's proof data -/

/-- The proof data of pipeline 0 on core `c`: the arrays as the region finds them (`V`). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := Pipeline.ΦA spec0 c
  q _ := fullShare
  owed _ := 0

/-- The proof data's arrays are the region-entry contents, by projecting the definition (`dsimp`). -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  unfold outsAt0
  unfold out0_A_2 out0_A_3; (try dsimp only)
  iintro ⟨⟨⟨HS0, HR1, HR2, HR3, HR4, HR5, HR6, HR7, HR8, HR9, HR10, HR11, HR12, HR13⟩, Hg⟩, Ho, ⟨%d0, H0⟩, ⟨%d1, H1⟩, ⟨%d2, H2⟩, ⟨%d3, H3⟩⟩
  iapply ((kernelRun0_A c (grid0.coords t) _ _ _ _ _ _ _ _ _ _ (iblk0 V c 0 t) (iblk0 V c 1 t)).2.2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, ⟨%fT0, HS0⟩⟩
  isplitl [HS0 HR1 HR2 HR3 HR4 HR5 HR6 HR7 HR8 HR9 HR10 HR11 HR12 HR13 Hg]
  · isplitl [HS0 HR1 HR2 HR3 HR4 HR5 HR6 HR7 HR8 HR9 HR10 HR11 HR12 HR13]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      iexact HR13
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  unfold owns; iexists _; isplitr
  swap; · iexact H3
  ipureintro; exact View.read_writes_of_cover _ _ _ _ _ (cover0_A_3 c _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Whole

end
-- ==== Proof.Kernel.MatmulCases.lean ====
/- The second call of the kernel, `cc1_w8a8_matmul`: its blocks, the conditions of its three branches in closed form,
  and the points at which its output is idle. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The frame claim's post from the frame run's -/

/-! ## The body's branch conditions -/

/-- The condition of the body's `scf.if` 0 (`k1_h1`), from the grid coordinates (the skeleton's scalar chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 27) — by arithmetic of the point. -/
theorem hcond1_0 : ∀ t : Fin cfg1.N, cond1_0 (grid1.coords t) ↔ t.val % 27 = 0 :=
  (fun t => by
    have ht : t.val < 1620 := Nat.lt_of_lt_of_eq t.isLt N_1
    have e0 : (grid1.coords t 0).val = t.val / 135 % 12 := Pipeline.Grid.coords_val t 0 (by decide) rfl
    have e1 : (grid1.coords t 1).val = t.val / 27 % 5 := Pipeline.Grid.coords_val t 1 (by decide) rfl
    have e2 : (grid1.coords t 2).val = t.val / 1 % 27 := Pipeline.Grid.coords_val t 2 (by decide) rfl
    simp only [cond1_0, e0, e1, e2]
    word_cmp
   : ∀ t : Fin grid1.N, cond1_0 (grid1.coords t) ↔ t.val % 27 = 0)

/-- The condition of the body's `scf.if` 1 (`k1_h2`), from the grid coordinates (the skeleton's scalar chain substituted). -/
abbrev cond1_1 (i : grid1.Coords) : Prop := (Scalar.cmpi .ne (Scalar.extui (Scalar.cmpi .sgt (BitVec.ofNat 32 (i 2).val) 0#32)) 0#32) = 1#1
/-- It holds at the points whose coordinates have 1 ≤ i2 — decided over the grid. -/
theorem hcond1_1 : ∀ t : Fin cfg1.N, cond1_1 (grid1.coords t) ↔ 1 ≤ t.val % 27 :=
  (by decide +kernel : ∀ t : Fin grid1.N, cond1_1 (grid1.coords t) ↔ 1 ≤ t.val % 27)

/-- The condition of the body's `scf.if` 2 (`k1_h3`), from the grid coordinates (the skeleton's scalar chain substituted). -/
abbrev cond1_2 (i : grid1.Coords) : Prop := k1_cond3 i = 1#1
/-- It holds at the points ≡ 26 (mod 27) — by arithmetic of the point. -/
theorem hcond1_2 : ∀ t : Fin cfg1.N, cond1_2 (grid1.coords t) ↔ t.val % 27 = 26 :=
  (fun t => by
    have ht : t.val < 1620 := Nat.lt_of_lt_of_eq t.isLt N_1
    have e0 : (grid1.coords t 0).val = t.val / 135 % 12 := Pipeline.Grid.coords_val t 0 (by decide) rfl
    have e1 : (grid1.coords t 1).val = t.val / 27 % 5 := Pipeline.Grid.coords_val t 1 (by decide) rfl
    have e2 : (grid1.coords t 2).val = t.val / 1 % 27 := Pipeline.Grid.coords_val t 2 (by decide) rfl
    simp only [cond1_2, k1_cond3, e0, e1, e2]
    word_cmp
   : ∀ t : Fin grid1.N, cond1_2 (grid1.coords t) ↔ t.val % 27 = 26)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- At the points of case A the printed configuration (`Cfg.idle`) calls output 5 idle: the case stores nothing into it. -/
theorem idleAt1_5_A : ∀ t : Fin cfg1.N, cond1_0 (grid1.coords t) → ¬cond1_1 (grid1.coords t) → ¬cond1_2 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → ¬cond1_2 (grid1.coords t) → (cfg1.win 5).flush t = false := by decide +kernel
/-- At the points of case B the printed configuration (`Cfg.idle`) calls output 5 idle: the case stores nothing into it. -/
theorem idleAt1_5_B : ∀ t : Fin cfg1.N, ¬cond1_0 (grid1.coords t) → cond1_1 (grid1.coords t) → ¬cond1_2 (grid1.coords t) → cfg1.idle 5 (grid1.coords t) = true := by decide +kernel
/-- At the points of case B the pipeline does not write output 5's block back. -/
theorem noFlush1_5_B : ∀ t : Fin cfg1.N, ¬cond1_0 (grid1.coords t) → cond1_1 (grid1.coords t) → ¬cond1_2 (grid1.coords t) → (cfg1.win 5).flush t = false := by decide +kernel
/-- At the points of case C the printed configuration (`Cfg.idle`) calls output 5 live: the case stores into it. -/
theorem liveAt1_5_C : ∀ t : Fin cfg1.N, ¬cond1_0 (grid1.coords t) → cond1_1 (grid1.coords t) → cond1_2 (grid1.coords t) → cfg1.idle 5 (grid1.coords t) = false := by decide +kernel

/-! ## The kernel body on any staging memrefs: a subtype the run finds -/

/-- One staging buffer of output window 5, through which its contents are stated (`View.read_writes_of_cover`: the choice does not matter). -/
abbrev VO1_5 : View sig .tc .vmem S1024x1024 .bf16 := (Memref.whole cc1_stg5_0 : Memref sig .tc .vmem S1024x1024 .bf16).view
/-- Each window's current staging memref at point `t`, spelled as the pipeline passes it (`bodyAt1`), and its wholeness. -/
abbrev ms1_0 (t : Fin cfg1.N) : Memref sig .tc .vmem S1024x1024 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1024x1024 .i32 := Memref.whole cc1_scratch0
/-- The scratch `arg9` the kernel carries between points, as a view: what it holds is stated through it. -/
abbrev VS1_0 : View sig .tc .vmem S1024x1024 .i32 := scM1_0.view

/-- The frame kit's invariant with the scratch operands as memrefs owned at some contents : what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Whole

end
-- ==== Proof.Kernel.MatmulRunA.lean ====
/- One run of the body of `cc1_w8a8_matmul` at the first block of the contraction: the scratch is set. -/
module

public import proofs.«01_k».proof.Proof.Kernel.MatmulCases

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken. -/
noncomputable def kernelRun1_A (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : cond1_0 i) (hc1 : ¬cond1_1 i) (hc2 : ¬cond1_2 i)
    (x0 : Vec F S1024x1024 .i8) (x1 : Vec F S1024x1024 .i8) (x2 : Vec F S1024x1 .f32) (x3 : Vec F S1x1024 .f32) (x4 : Vec F S1x1024 .f32) :
    Σ' (L5 : List (View.Piece (Elt F) S1024x1024 .bf16)), { LS0 : List (View.Piece (Elt F) S1024x1024 .i32) //
      ∀ (xi5 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_w8a8_matmul i arg3 harg3 arg4 harg4 arg5 harg5 arg6 harg6 arg7 harg7 arg8 harg8 arg9 harg9) K } := by
  refine ⟨[], ?_, fun xi5 E K => ?run⟩
  case run =>
    simp only [cc1_w8a8_matmul_eq_skeleton]; unfold cc1_w8a8_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Whole

end
-- ==== Proof.Kernel.MatmulRunB.lean ====
/- One run of the body of `cc1_w8a8_matmul` at a middle block of the contraction: the scratch is added to. -/
module

public import proofs.«01_k».proof.Proof.Kernel.MatmulCases

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken. -/
noncomputable def kernelRun1_B (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) :
    Σ' (L5 : List (View.Piece (Elt F) S1024x1024 .bf16)), { LS0 : List (View.Piece (Elt F) S1024x1024 .i32) //
      ∀ (xi5 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_w8a8_matmul i arg3 harg3 arg4 harg4 arg5 harg5 arg6 harg6 arg7 harg7 arg8 harg8 arg9 harg9) K } := by
  refine ⟨[], ?_, fun xi5 E K => ?run⟩
  case run =>
    simp only [cc1_w8a8_matmul_eq_skeleton]; unfold cc1_w8a8_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Whole

end
-- ==== Proof.Kernel.MatmulRunC.lean ====
/- One run of the body of `cc1_w8a8_matmul` at the last block of the contraction: the scratch is added to and the output stored. -/
module

public import proofs.«01_k».proof.Proof.Kernel.MatmulCases

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken. -/
noncomputable def kernelRun1_C (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) :
    Σ' (L5 : List (View.Piece (Elt F) S1024x1024 .bf16)), { LS0 : List (View.Piece (Elt F) S1024x1024 .i32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1_w8a8_matmul i arg3 harg3 arg4 harg4 arg5 harg5 arg6 harg6 arg7 harg7 arg8 harg8 arg9 harg9) K } := by
  refine ⟨?_, ?_, fun E K => ?run⟩
  case run =>
    simp only [cc1_w8a8_matmul_eq_skeleton]; unfold cc1_w8a8_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Whole

end
-- ==== Proof.Kernel.Matmul.lean ====
/- The second call of the kernel, `cc1_w8a8_matmul`, point by point: what its output and its accumulator hold after each
  point, and the obligation the pipeline asks of the body. -/
module

public import proofs.«01_k».proof.Proof.Kernel.MatmulRunA
public import proofs.«01_k».proof.Proof.Kernel.MatmulRunB
public import proofs.«01_k».proof.Proof.Kernel.MatmulRunC

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Case A stores nothing into output 5 (the window is idle at its points and not written back there). -/
def out1_A_5 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : cond1_0 i) (hc1 : ¬cond1_1 i) (hc2 : ¬cond1_2 i)
    (x0 : Vec F S1024x1024 .i8) (x1 : Vec F S1024x1024 .i8) (x2 : Vec F S1024x1 .f32) (x3 : Vec F S1x1024 .f32) (x4 : Vec F S1x1024 .f32) : Vec F S1024x1024 .bf16 :=
  VO1_5.read (Elt F) (VO1_5.writes (Elt F) VO1_5.junk (kernelRun1_A c i arg3 harg3 arg4 harg4 arg5 harg5 arg6 harg6 arg7 harg7 arg8 harg8 arg9 harg9 hc0 hc1 hc2 x0 x1 x2 x3 x4).1)

/-- Case A's pieces for scratch `arg9`, which the kernel carries between points, cover it: 1 piece of `S1024x1024` tiling it. -/
theorem scover1_A_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : cond1_0 i) (hc1 : ¬cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (y : S1024x1024.Idx) :
    ∃ pc ∈ (kernelRun1_A c i arg3 harg3 arg4 harg4 arg5 harg5 arg6 harg6 arg7 harg7 arg8 harg8 arg9 harg9 hc0 hc1 hc2 x0 x1 x2 x3 x4).2.1, y ∈ pc.1.set :=
  View.cover_of_tiledL (kernelRun1_A c i arg3 harg3 arg4 harg4 arg5 harg5 arg6 harg6 arg7 harg7 arg8 harg8 arg9 harg9 hc0 hc1 hc2 x0 x1 x2 x3 x4).2.1 S1024x1024.size (by sl_kernel_rfl) y

/-- What case A leaves in scratch `arg9`: its pieces read back over junk. -/
def sout1_A_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : cond1_0 i) (hc1 : ¬cond1_1 i) (hc2 : ¬cond1_2 i)
    (x0 : Vec F S1024x1024 .i8) (x1 : Vec F S1024x1024 .i8) (x2 : Vec F S1024x1 .f32) (x3 : Vec F S1x1024 .f32) (x4 : Vec F S1x1024 .f32) : Vec F S1024x1024 .i32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2 x3 x4).2.1)

/-- Case B stores nothing into output 5 (the window is idle at its points and not written back there). -/
def out1_B_5 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) : Vec F S1024x1024 .bf16 :=
  VO1_5.read (Elt F) (VO1_5.writes (Elt F) VO1_5.junk (kernelRun1_B c i arg3 harg3 arg4 harg4 arg5 harg5 arg6 harg6 arg7 harg7 arg8 harg8 arg9 harg9 hc0 hc1 hc2 x0 x1 x2 x3 x4 xs0).1)

/-- Case B's pieces for scratch `arg9`, which the kernel carries between points, cover it: 1 piece of `S1024x1024` tiling it. -/
theorem scover1_B_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) (y : S1024x1024.Idx) :
    ∃ pc ∈ (kernelRun1_B c i arg3 harg3 arg4 harg4 arg5 harg5 arg6 harg6 arg7 harg7 arg8 harg8 arg9 harg9 hc0 hc1 hc2 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 hc2 x0 x1 x2 x3 x4 xs0).2.1 S1024x1024.size (by sl_kernel_rfl) y

/-- What case B leaves in scratch `arg9`: its pieces read back over junk. -/
def sout1_B_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) : Vec F S1024x1024 .i32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 x3 x4 xs0).2.1)

/-- Case C's pieces for output 5 tile its block, so they cover it. -/
theorem cover1_C_5 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) (y : S1024x1024.Idx) :
    ∃ pc ∈ (kernelRun1_C c i arg3 harg3 arg4 harg4 arg5 harg5 arg6 harg6 arg7 harg7 arg8 harg8 arg9 harg9 hc0 hc1 hc2 x0 x1 x2 x3 x4 xs0).1, y ∈ pc.1.set :=
  View.cover_of_tiledL (kernelRun1_C c i arg3 harg3 arg4 harg4 arg5 harg5 arg6 harg6 arg7 harg7 arg8 harg8 arg9 harg9 hc0 hc1 hc2 x0 x1 x2 x3 x4 xs0).1 S1024x1024.size (by sl_kernel_rfl) y

/-- What case C leaves in output 5's staging buffer: its pieces read back over junk. -/
def out1_C_5 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) : Vec F S1024x1024 .bf16 :=
  VO1_5.read (Elt F) (VO1_5.writes (Elt F) VO1_5.junk (kernelRun1_C c i arg3 harg3 arg4 harg4 arg5 harg5 arg6 harg6 arg7 harg7 arg8 harg8 arg9 harg9 hc0 hc1 hc2 x0 x1 x2 x3 x4 xs0).1)

/-- Case C's pieces for scratch `arg9`, which the kernel carries between points, cover it: 1 piece of `S1024x1024` tiling it. -/
theorem scover1_C_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) (y : S1024x1024.Idx) :
    ∃ pc ∈ (kernelRun1_C c i arg3 harg3 arg4 harg4 arg5 harg5 arg6 harg6 arg7 harg7 arg8 harg8 arg9 harg9 hc0 hc1 hc2 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 hc2 x0 x1 x2 x3 x4 xs0).2.1 S1024x1024.size (by sl_kernel_rfl) y

/-- What case C leaves in scratch `arg9`: its pieces read back over junk. -/
def sout1_C_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) : Vec F S1024x1024 .i32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 x3 x4 xs0).2.1)

/-! ## What the outputs hold after each point -/

/-- THE ACCUMULATION. What the outputs' staging buffers and the scratch the kernel carries between points hold after the body at position `n` (a tuple. -/
def outsAt1 (c : Dev nD) : (n : ℕ) → n < cfg1.N → Vec F S1024x1024 .bf16 × Vec F S1024x1024 .i32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 27 = 0 then
      if h1 : 1 ≤ (n + 1) % 27 then
        False.elim (by have hN : n + 1 < 1620 := lt_of_lt_of_eq hn (show cfg1.N = 1620 from N_1); omega)
      else
        if h2 : (n + 1) % 27 = 26 then
          False.elim (by have hN : n + 1 < 1620 := lt_of_lt_of_eq hn (show cfg1.N = 1620 from N_1); omega)
        else
          (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : 1 ≤ (n + 1) % 27 then
        if h2 : (n + 1) % 27 = 26 then
          (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
        else
          (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        False.elim (by have hN : n + 1 < 1620 := lt_of_lt_of_eq hn (show cfg1.N = 1620 from N_1); omega)

/-- `outsAt1` at a point of case A: that case's contents. -/
theorem outsAt1_A (c : Dev nD) (t : Fin cfg1.N) (h0 : t.val % 27 = 0) (h1 : ¬1 ≤ t.val % 27) (h2 : ¬t.val % 27 = 26) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans ((dif_neg h2).trans rfl))

/-- `outsAt1` at a point of case B: that case's contents, over what the point before left. -/
theorem outsAt1_B (c : Dev nD) (t : Fin cfg1.N) (h0 : ¬t.val % 27 = 0) (h1 : 1 ≤ t.val % 27) (h2 : ¬t.val % 27 = 26) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C: that case's contents, over what the point before left. -/
theorem outsAt1_C (c : Dev nD) (t : Fin cfg1.N) (h0 : ¬t.val % 27 = 0) (h1 : 1 ≤ t.val % 27) (h2 : t.val % 27 = 26) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents: the proof data's definition projected (`dsimp`), so that `V`. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks (`before1_W`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 1620 := lt_of_lt_of_eq t.isLt (show cfg1.N = 1620 from N_1)
  by_cases h0 : t.val % 27 = 0
  · by_cases h1 : 1 ≤ t.val % 27
    · exfalso; omega
    · by_cases h2 : t.val % 27 = 26
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [Dat.leavesExact_idle (dat1 V c) 5 t (idleAt1_5_A t ((hcond1_0 t).mpr h0) (fun h => h1 ((hcond1_1 t).mp h)) (fun h => h2 ((hcond1_2 t).mp h))) (noFlush1_5_A t ((hcond1_0 t).mpr h0) (fun h => h1 ((hcond1_1 t).mp h)) (fun h => h2 ((hcond1_2 t).mp h)))]
        by_cases hz : t.val = 0
        · rw [PhiS1_castSucc V c t, PhiS1_zero V c _ _ hz, PhiA1_eq]
          rw [outsAt1_A V c t h0 h1 h2]
          unfold sout1_A_0; (try dsimp only)
          iintro ⟨⟨⟨HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HR1 HR2 HR3 HR4 HR5 HR6 HR7 HR8 HS0 Hg]
          · isplitl [HR1 HR2 HR3 HR4 HR5 HR6 HR7 HR8 HS0]
            · isplitl [HR1]; · iexact HR1
              isplitl [HR2]; · iexact HR2
              isplitl [HR3]; · iexact HR3
              isplitl [HR4]; · iexact HR4
              isplitl [HR5]; · iexact HR5
              isplitl [HR6]; · iexact HR6
              isplitl [HR7]; · iexact HR7
              isplitl [HR8]; · iexact HR8
              unfold owns; iexists _; isplitr
              swap; · iexact HS0
              ipureintro; exact View.read_writes_of_cover _ _ _ _ _ (scover1_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS1_castSucc V c t, PhiS1_pos V c _ _ hz]
          rw [outsAt1_A V c t h0 h1 h2]
          unfold sout1_A_0; (try dsimp only)
          iintro ⟨⟨⟨HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          iintro ⟨H0, H1, H2, H3, H4, H5, ⟨%es0, HS0⟩⟩
          isplitl [HR1 HR2 HR3 HR4 HR5 HR6 HR7 HR8 HS0 Hg]
          · isplitl [HR1 HR2 HR3 HR4 HR5 HR6 HR7 HR8 HS0]
            · isplitl [HR1]; · iexact HR1
              isplitl [HR2]; · iexact HR2
              isplitl [HR3]; · iexact HR3
              isplitl [HR4]; · iexact HR4
              isplitl [HR5]; · iexact HR5
              isplitl [HR6]; · iexact HR6
              isplitl [HR7]; · iexact HR7
              isplitl [HR8]; · iexact HR8
              unfold owns; iexists _; isplitr
              swap; · iexact HS0
              ipureintro; exact View.read_writes_of_cover _ _ _ _ _ (scover1_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : 1 ≤ t.val % 27
    · by_cases h2 : t.val % 27 = 26
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1) ((hcond1_2 t).mpr h2)], after1_5]
        by_cases hz : t.val = 0
        · exfalso; have hN : t.val < 1620 := lt_of_lt_of_eq t.isLt (show cfg1.N = 1620 from N_1); omega
        · rw [PhiS1_castSucc V c t, PhiS1_pos V c _ _ hz]
          rw [outsAt1_C V c t h0 h1 h2]
          unfold out1_C_5 sout1_C_0; (try dsimp only)
          iintro ⟨⟨⟨HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
          iapply ((kernelRun1_C c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HR1 HR2 HR3 HR4 HR5 HR6 HR7 HR8 HS0 Hg]
          · isplitl [HR1 HR2 HR3 HR4 HR5 HR6 HR7 HR8 HS0]
            · isplitl [HR1]; · iexact HR1
              isplitl [HR2]; · iexact HR2
              isplitl [HR3]; · iexact HR3
              isplitl [HR4]; · iexact HR4
              isplitl [HR5]; · iexact HR5
              isplitl [HR6]; · iexact HR6
              isplitl [HR7]; · iexact HR7
              isplitl [HR8]; · iexact HR8
              unfold owns; iexists _; isplitr
              swap; · iexact HS0
              ipureintro; exact View.read_writes_of_cover _ _ _ _ _ (scover1_C_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_C_5 c _ _ _ _ _ _ _ _ _ _ _ _ _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [Dat.leavesExact_idle (dat1 V c) 5 t (idleAt1_5_B t (fun h => h0 ((hcond1_0 t).mp h)) ((hcond1_1 t).mpr h1) (fun h => h2 ((hcond1_2 t).mp h))) (noFlush1_5_B t (fun h => h0 ((hcond1_0 t).mp h)) ((hcond1_1 t).mpr h1) (fun h => h2 ((hcond1_2 t).mp h)))]
        by_cases hz : t.val = 0
        · exfalso; have hN : t.val < 1620 := lt_of_lt_of_eq t.isLt (show cfg1.N = 1620 from N_1); omega
        · rw [PhiS1_castSucc V c t, PhiS1_pos V c _ _ hz]
          rw [outsAt1_B V c t h0 h1 h2]
          unfold sout1_B_0; (try dsimp only)
          iintro ⟨⟨⟨HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
          iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HR1 HR2 HR3 HR4 HR5 HR6 HR7 HR8 HS0 Hg]
          · isplitl [HR1 HR2 HR3 HR4 HR5 HR6 HR7 HR8 HS0]
            · isplitl [HR1]; · iexact HR1
              isplitl [HR2]; · iexact HR2
              isplitl [HR3]; · iexact HR3
              isplitl [HR4]; · iexact HR4
              isplitl [HR5]; · iexact HR5
              isplitl [HR6]; · iexact HR6
              isplitl [HR7]; · iexact HR7
              isplitl [HR8]; · iexact HR8
              unfold owns; iexists _; isplitr
              swap; · iexact HS0
              ipureintro; exact View.read_writes_of_cover _ _ _ _ _ (scover1_B_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR1, HR2, HR3, HR4, HR5, HR6, HR7, HR8, HS0⟩, Hg⟩
  isplitl [HR1 HR2 HR3 HR4 HR5 HR6 HR7 HR8 HS0]
  · isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 1620 := N_1; omega)

end Cert.Kernel.Whole

end
-- ==== Proof.Kernel.Run.lean ====
/- The run of @main: the two calls among the host operations, from the launch to the return; the frame. -/
module

public import proofs.«01_k».proof.Proof.Kernel.Rotate
public import proofs.«01_k».proof.Proof.Kernel.Matmul
public import Idealize.ShloMosaic.Lib.Pipeline.RegionsLoop
public import Idealize.ShloMosaic.Lib.Pipeline.FrameSuffix

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along (its `post` is then those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing). -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2` (what the next segment is entered from). -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4` (what the next segment is entered from). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    rw [Pipeline.ownSems0_none]; refine BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `main_chain`, then the segments' run against that chain by the kernel's definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run of @main ends, nothing faulting, with every buffer that outlives a call at the last boundary's contents `W5` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every run of @main ends, nothing faulting, with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.Kernel.Whole

end
-- ==== Proof.KernelIdeal.Rotate.lean ====
/- The first call of the kernel, `cc0_rotate_quant`, at any contents of the buffers it is entered with:
  what one run of its body leaves in its two results, and the obligation the pipeline asks of the body. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 2, through which its contents are stated (`View.read_writes_of_cover`: the choice does not matter). -/
abbrev VO0_2 : View sig .tc .vmem S64x27648 .i8 := (Memref.whole cc0_stg2_0 : Memref sig .tc .vmem S64x27648 .i8).view
/-- One staging buffer of output window 3, through which its contents are stated (`View.read_writes_of_cover`: the choice does not matter). -/
abbrev VO0_3 : View sig .tc .vmem S64x1 .f32 := (Memref.whole cc0_stg3_0 : Memref sig .tc .vmem S64x1 .f32).view
/-- Each window's current staging memref at point `t`, spelled as the pipeline passes it (`bodyAt0`), and its wholeness. -/
abbrev ms0_0 (t : Fin cfg0.N) : Memref sig .tc .vmem S64x27648 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x27648 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x1 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S64x27648 .f32 := Memref.whole cc0_scratch0

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 4060000 in
/-- What the body's stores leave in each output's staging memref, as pieces (last first). -/
noncomputable def kernelRun0_A (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) :
    Σ' (L2 : List (View.Piece (Elt F) S64x27648 .i8)), Σ' (L3 : List (View.Piece (Elt F) S64x1 .f32)), { LT0 : List (View.Piece (Elt F) S64x27648 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LT0)) -∗ K ⟨⟩))
          ⊢ wp frame (wpE (defs₀ (F := F)) Variants.none c none) E (cc0_rotate_quant i arg1 harg1 arg2 harg2 arg3 harg3 arg4 harg4 arg5 harg5) K } := by
  refine ⟨?_, ?_, ?_, fun E K => ?run⟩
  case run =>
    simp only [cc0_rotate_quant_eq_skeleton]; unfold cc0_rotate_quant_skel
    simp only [k0_part67_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part68_eq_skeleton, k0_part61_eq_skeleton, k0_part62_eq_skeleton, k0_part63_eq_skeleton, k0_part64_eq_skeleton, k0_part65_eq_skeleton, k0_part66_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

/-- The run's pieces for output 2 tile its block, so they cover it. -/
theorem cover0_A_2 (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) (y : S64x27648.Idx) :
    ∃ pc ∈ (kernelRun0_A c i arg1 harg1 arg2 harg2 arg3 harg3 arg4 harg4 arg5 harg5 x0 x1).1, y ∈ pc.1.set :=
  View.cover_of_tiledL (kernelRun0_A c i arg1 harg1 arg2 harg2 arg3 harg3 arg4 harg4 arg5 harg5 x0 x1).1 S64x256.size (by sl_kernel_rfl) y

/-- What the run leaves in output 2's staging buffer: its pieces read back over junk. -/
def out0_A_2 (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) : Vec F S64x27648 .i8 :=
  VO0_2.read (Elt F) (VO0_2.writes (Elt F) VO0_2.junk (kernelRun0_A c i arg1 harg1 arg2 harg2 arg3 harg3 arg4 harg4 arg5 harg5 x0 x1).1)

/-- The run's pieces for output 3 tile its block, so they cover it. -/
theorem cover0_A_3 (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) (y : S64x1.Idx) :
    ∃ pc ∈ (kernelRun0_A c i arg1 harg1 arg2 harg2 arg3 harg3 arg4 harg4 arg5 harg5 x0 x1).2.1, y ∈ pc.1.set :=
  View.cover_of_tiledL (kernelRun0_A c i arg1 harg1 arg2 harg2 arg3 harg3 arg4 harg4 arg5 harg5 x0 x1).2.1 S64x1.size (by sl_kernel_rfl) y

/-- What the run leaves in output 3's staging buffer: its pieces read back over junk. -/
def out0_A_3 (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16) : Vec F S64x1 .f32 :=
  VO0_3.read (Elt F) (VO0_3.writes (Elt F) VO0_3.junk (kernelRun0_A c i arg1 harg1 arg2 harg2 arg3 harg3 arg4 harg4 arg5 harg5 x0 x1).2.1)

/-! ## What the outputs hold after each point -/

/-- What the outputs' staging buffers hold after the body at point `t` (as a tuple, in window order): the run's contents at the point's memrefs and input blocks. -/
def outsAt0 (c : Dev nD) (t : Fin cfg0.N) : Vec F S64x27648 .i8 × Vec F S64x1 .f32 :=
  (out0_A_2 c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t), out0_A_3 c (grid0.coords t) (ms0_0 t) (hs0_0 t) (ms0_1 t) (hs0_1 t) (ms0_2 t) (hs0_2 t) (ms0_3 t) (hs0_3 t) scM0_0 (Memref.isWhole_whole _) (iblk0 V c 0 t) (iblk0 V c 1 t))

/-! ## The pipeline's proof data -/

/-- The proof data of pipeline 0 on core `c`: the arrays as the region finds them (`V`). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t).1
    | ⟨3, _⟩ => (outsAt0 V c t).2
  Φ _ := Pipeline.ΦA spec0 c
  q _ := fullShare
  owed _ := 0

/-- The proof data's arrays are the region-entry contents, by projecting the definition (`dsimp`). -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t).1 := by dsimp only [dat0]
theorem after0_3 (c : Dev nD) (t : Fin cfg0.N) : (dat0 V c).after 3 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

/-- The body at any point: the inputs' memrefs hold their blocks (`before0_W`). -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  rw [show (dat0 V c).Φ t.castSucc = Pipeline.ΦA spec0 c from rfl, PhiA0_eq]
  unfold outsAt0
  unfold out0_A_2 out0_A_3; (try dsimp only)
  iintro ⟨⟨⟨HS0, HR1, HR2, HR3, HR4, HR5, HR6, HR7, HR8, HR9, HR10, HR11, HR12, HR13⟩, Hg⟩, Ho, ⟨%d0, H0⟩, ⟨%d1, H1⟩, ⟨%d2, H2⟩, ⟨%d3, H3⟩⟩
  iapply ((kernelRun0_A c (grid0.coords t) _ _ _ _ _ _ _ _ _ _ (iblk0 V c 0 t) (iblk0 V c 1 t)).2.2.2 Set.univ _)
  isplitl [H0]; · iexact H0
  isplitl [H1]; · iexact H1
  isplitl [H2]; · iexists _; iexact H2
  isplitl [H3]; · iexists _; iexact H3
  isplitl [HS0]; · iexact HS0
  iintro ⟨H0, H1, ⟨%e2, H2⟩, ⟨%e3, H3⟩, ⟨%fT0, HS0⟩⟩
  isplitl [HS0 HR1 HR2 HR3 HR4 HR5 HR6 HR7 HR8 HR9 HR10 HR11 HR12 HR13 Hg]
  · isplitl [HS0 HR1 HR2 HR3 HR4 HR5 HR6 HR7 HR8 HR9 HR10 HR11 HR12 HR13]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      iexact HR13
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _)
  unfold owns; iexists _; isplitr
  swap; · iexact H3
  ipureintro; exact View.read_writes_of_cover _ _ _ _ _ (cover0_A_3 c _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.KernelIdeal.RotatePieces.lean ====
/-
  What one grid point of the rotate region writes, read as uniform tiles.

  The body of `_rotate_quant` is unrolled over 108 chunks of 256 columns. This module gives each chunk's arithmetic one
  name (`rotChunk`, `quantChunk`), the running maximum of the chunks' absolute values one recursion (`runMax`), and says
  that the lists of stores the body makes are the lists of 108 equal tiles over those names.
-/
module
public import proofs.«01_k».proof.Proof.KernelIdeal.Rotate
public import Idealize.ShloMosaic.Lib.WritesUnit
@[expose] public section
set_option maxRecDepth 16384
noncomputable section
namespace Cert.KernelIdeal.Whole
open Idealize.ShloMosaic Idealize.ShloMosaic.TcCoe Idealize.ShloMosaic.Tactic
open Cert.KernelIdeal.Gen
variable {F : FTy → Type} [FloatOps F]

/-- Chunk `k` starts at column `256 * k`. -/
def off0 (k : Fin 108) : Fin 2 → ℕ := ![0, 256 * k.val]

/-- Every chunk lies inside the block. -/
theorem inb0 (k : Fin 108) (a : Fin 2) : off0 k a + (![64, 256] : Fin 2 → ℕ) a ≤ S64x27648.size a := by
  have := k.isLt
  match a with
  | ⟨0, _⟩ => show 0 + 64 ≤ 64; omega
  | ⟨1, _⟩ => show 256 * k.val + 256 ≤ 27648; omega

/-- Chunk `k` of the activation block. -/
def xChunk (x0 : Vec F S64x27648 .bf16) (k : Fin 108) : Vec F S64x256 .bf16 :=
  View.ld x0 (Rect.unit (off0 k) ![64, 256] (inb0 k))

/-- One chunk rotated: the product with the 256-wide matrix, times the normalisation. -/
abbrev rotChunk (h : Vec F S256x256 .bf16) (x : Vec F S64x256 .bf16) : Vec F S64x256 .f32 := k0_pay1 x h

/-- The running maximum of the absolute values of the chunks `0 … n`. -/
def runMax (P : ℕ → FVec F S64x256 .f32) : ℕ → FVec F S64x256 .f32
  | 0 => absf (P 0)
  | n + 1 => maximumf (runMax P n) (absf (P (n + 1)))

/-- One rotated chunk quantised with the reciprocal scale `inv` of each row. -/
abbrev quantChunk (inv : FVec F S64x1 .f32) (y : Vec F S64x256 .f32) : Vec F S64x256 .i8 := k0_pay259 inv y

section
variable (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec F S64x27648 .bf16) (x1 : Vec F S256x256 .bf16)

/-- Chunk `k` of the activation block as the body loads it. -/
def ldChunk (k : Fin 108) : Vec F S64x256 .bf16 :=
  (View.readAt (Elt F) arg1.view (Rect.unit (s := S64x27648) (off0 k) ![64, 256] (inb0 k)).toLoadRect (harg1.unread x0) :
    (Rect.unit (s := S64x27648) (off0 k) ![64, 256] (inb0 k)).shape.Idx → Elt F .bf16)

/-- The matrix as the body loads it. -/
def ldH : Vec F S256x256 .bf16 :=
  (View.readAt (Elt F) arg2.view (Rect.unit (s := S256x256) ![0, 0] S256x256.size inb_S256x256_S256x256_0_0).toLoadRect (harg2.unread x1) :
    (Rect.unit (s := S256x256) ![0, 0] S256x256.size inb_S256x256_S256x256_0_0).shape.Idx → Elt F .bf16)

/-- The 108 stores to the scratch: the rotated chunks. -/
def scrPieces : List (View.Piece (Elt F) S64x27648 .f32) :=
  View.tilePieces (NT := 108) (s := S64x27648) ![64, 256] off0 inb0 (fun k => k0_pay2 (ldChunk arg1 harg1 x0 k) (ldH arg2 harg2 x1)) 108 (Nat.le_refl _)

/-- The maximum of the absolute values over all the chunks. -/
def bodyMax : FVec F S64x256 .f32 :=
  runMax (fun k => if h : k < 108 then rotChunk (ldH arg2 harg2 x1) (ldChunk arg1 harg1 x0 ⟨k, h⟩) else rotChunk (ldH arg2 harg2 x1) (ldChunk arg1 harg1 x0 0)) 107

theorem pieces_scratch :
    kernelRun0_A.sl.HS0_108 c arg1 harg1 arg2 harg2 x0 x1 = scrPieces arg1 harg1 arg2 harg2 x0 x1 := by
  sl_kernel_rfl

theorem pieces_scale :
   (kernelRun0_A c i arg1 harg1 arg2 harg2 arg3 harg3 arg4 harg4 arg5 harg5 x0 x1).2.1
     = [⟨Rect.unit ![0, 0] S64x1.size inb_S64x1_S64x1_0_0, k0_pay253 (bodyMax arg1 harg1 arg2 harg2 x0 x1)⟩] := by
  sl_kernel_rfl

theorem pieces_codes :
   (kernelRun0_A c i arg1 harg1 arg2 harg2 arg3 harg3 arg4 harg4 arg5 harg5 x0 x1).1
     = View.tilePieces (NT := 108) (s := S64x27648) ![64, 256] off0 inb0
       (fun k => quantChunk (k0_pay254 (bodyMax arg1 harg1 arg2 harg2 x0 x1))
         (arg5.view.readCov (scrPieces arg1 harg1 arg2 harg2 x0 x1) (Rect.unit (s := S64x27648) (off0 k) ![64, 256] (inb0 k)).toLoadRect :
           (Rect.unit (s := S64x27648) (off0 k) ![64, 256] (inb0 k)).shape.Idx → Elt F .f32)) 108 (Nat.le_refl _) := by
  sl_kernel_rfl
end
end Cert.KernelIdeal.Whole
-- ==== Proof.Value.Hadamard.lean ====
/-
  The sign matrices in closed form.

  The 128-wide sign matrix has the entry +1 or -1 at row `a`, column `b` by the parity of the bits that `a` and `b` share;
  the kernel's 256-wide matrix has that matrix twice on its diagonal and zero elsewhere. The kernel's is printed as a tree
  of tables. A table of `n` rows is a chain of equality tests (`nest`), so the whole tree is, by definitional unfolding,
  the chain over the closed form, and the chain reads as the closed form at every index in range. The reference's is built
  by doubling, `[[h, h], [h, -h]]` from the one-by-one matrix (`syl` is the sign it gives), and agrees with the parity.
-/
module
public import proofs.«01_k».proof.KernelIdeal
public import Idealize.ShloMosaic.Lib.Tactic
@[expose] public section
set_option maxRecDepth 65536
noncomputable section
namespace Cert.Had
open Idealize.ShloMosaic Idealize.ShloMosaic.Tactic

/-- A table of `n` rows starting at row `o`: tests `x = o`, `x = o + 1`, …, in turn, `d` past the end. -/
def nest {α : Type} (g : Nat → α) (d : α) : Nat → Nat → Nat → α
  | _, 0, _ => d
  | o, n + 1, x => dite (x = o) (fun h => Eq.ndrec_symm (motive := fun _ => α) (g o) h) (fun _ => nest g d (o + 1) n x)

/-- Inside its range the table reads as its function. -/
theorem nest_eq {α : Type} (g : Nat → α) (d : α) (n o x : Nat) (h0 : o ≤ x) (h1 : x < o + n) : nest g d o n x = g x := by
  induction n generalizing o with
  | zero => omega
  | succ n ih =>
    unfold nest
    by_cases h : x = o
    · subst h; rw [dif_pos rfl]
    · rw [dif_neg h]; exact ih (o + 1) (by omega) (by omega)

/-- Whether an odd number of the lowest `f` bits of `n` are set. -/
def par : Nat → Nat → Bool
  | 0, _ => false
  | f + 1, n => xor (Nat.beq (n % 2) 1) (par f (n / 2))

/-- Whether the sign matrix is negative at row `a`, column `b`. -/
def neg (a b : Nat) : Bool := par 7 (Nat.land (a % 128) (b % 128))

/-- The f32 word of the 128-wide matrix's entry `e`. -/
def wordR (e : Nat) : BitVec 32 := bif neg (e / 128) (e % 128) then 0xBF800000#32 else 0x3F800000#32

/-- The kernel's word for entry `e`. -/
def wordK (e : Nat) : BitVec 16 :=
  bif Nat.beq (e / 256 / 128) (e % 256 / 128) then
    bif neg (e / 256) (e % 256) then 0xBF80#16 else 0x3F80#16
  else 0x0000#16

/-- The kernel's table is the chain over its closed form. -/
theorem litK_nest (i : Nat) : Cert.KernelIdeal.lit0t i
    = nest (fun q => nest (fun p => nest (fun j => wordK (16384 * q + 128 * p + j)) 0#16 0 128 (i % 128)) 0#16 0 128 (i / 128 % 128))
        0#16 0 4 (i / 16384) := by
  sl_kernel_rfl

theorem litK_eq (i : Nat) (h : i < 65536) : Cert.KernelIdeal.lit0t i = wordK i := by
  rw [litK_nest, nest_eq _ _ _ _ _ (by omega) (by omega), nest_eq _ _ _ _ _ (by omega) (by omega),
    nest_eq _ _ _ _ _ (by omega) (by omega)]
  congr 1; omega

/-- Whether the matrix of `2 ^ k` rows built by doubling is negative at row `a`, column `b`. -/
def syl : Nat → Nat → Nat → Bool
  | 0, _, _ => false
  | k + 1, a, b => xor (syl k (a % 2 ^ k) (b % 2 ^ k)) (Nat.ble (2 ^ k) a && Nat.ble (2 ^ k) b)

/-- Seven doublings give the parity of the shared bits. -/
theorem syl_eq : ∀ a b : Fin 128, syl 7 a.val b.val = neg a.val b.val := by decide +kernel
end Cert.Had
end
-- ==== Proof.Value.Spec.lean ====
/-
  The mathematics both programs are shown to compute, over the extended reals.

  A row of activations is multiplied, 128 columns at a time, by the scaled sign matrix (`rot`); the row's largest absolute
  value (`amax`) gives its scale (`scale`), and each rotated entry divided by the scale, rounded to even and clipped to
  [-127, 127] is its code (`code`). A row of codes times a column of weight codes is summed in 32-bit words (`acc`), and
  the result is that sum times the row's scale times the column's scale plus the bias (`outv`).
-/
module
public import proofs.«01_k».proof.Proof.Value.Hadamard
public import Idealize.ShloMosaic.Lib.Pipeline.Value
public import Idealize.ShloMosaic.Lib.ValueIdx
public import Idealize.ShloMosaic.PureOps.Ideal.Laws
public import Idealize.ShloMosaic.Lib.IdealHost
public import Mathlib.Data.BitVec
@[expose] public section
noncomputable section
namespace Cert.Spec
open Idealize.ShloMosaic

/-- The normalisation of the rotation, the f32 nearest to 128^(-1/2). -/
def norm : EReal := Ideal.ofBits .f32 0x3DB504F3#32

/-- The 128-wide sign matrix. -/
def hR (a b : ℕ) : EReal := Ideal.ofBits .f32 (Cert.Had.wordR (128 * a + b))

/-- The kernel's 256-wide matrix. -/
def hK (a b : ℕ) : EReal := Ideal.ofBits .bf16 (Cert.Had.wordK (256 * a + b))

theorem ofBits_neg_one_f32 : Ideal.ofBits .f32 0xBF800000#32 = -1 := IdealRules.sign_bit.ideal_negOnePat .f32

/-- The 256-wide matrix is the 128-wide one twice on the diagonal, zero elsewhere. -/
theorem hK_eq (a b : ℕ) (hb : b < 256) :
    hK a b = if a / 128 = b / 128 then hR (a % 128) (b % 128) else 0 := by
  have e1 : (256 * a + b) / 256 = a := by omega
  have e2 : (256 * a + b) % 256 = b := by omega
  have e3 : (128 * (a % 128) + b % 128) / 128 = a % 128 := by omega
  have e4 : (128 * (a % 128) + b % 128) % 128 = b % 128 := by omega
  have hn : Cert.Had.neg (a % 128) (b % 128) = Cert.Had.neg a b := by
    unfold Cert.Had.neg; rw [Nat.mod_mod, Nat.mod_mod]
  unfold hK hR Cert.Had.wordK Cert.Had.wordR
  rw [e1, e2, e3, e4, hn]
  by_cases h : a / 128 = b / 128
  · rw [if_pos h, h, Nat.beq_refl, cond_true]
    cases Cert.Had.neg a b
    · rw [cond_false, cond_false, Ideal.ofBits_one_bf16, Ideal.ofBits_one_f32]
    · rw [cond_true, cond_true, ofBits_neg_one_f32]; exact IdealRules.sign_bit.ideal_negOnePat .bf16
  · have hb' : Nat.beq (a / 128) (b / 128) = false := by
      rw [Bool.eq_false_iff]; exact fun e => h (Nat.eq_of_beq_eq_true e)
    rw [if_neg h, hb', cond_false, Ideal.ofBits_zero_bf16]

/-- Entry `j` of a rotated row. -/
def rot (x : Fin 27648 → EReal) (j : Fin 27648) : EReal :=
  ∑ k : Fin 128, x ⟨128 * (j.val / 128) + k.val, by have := j.isLt; have := k.isLt; omega⟩ * (hR k.val (j.val % 128) * norm)

/-- A rotated row's largest absolute value. -/
def amax (x : Fin 27648 → EReal) : EReal := ⨆ j : Fin 27648, max (rot x j) (-(rot x j))

/-- A row's scale: a 127th of its largest absolute value, or one for a zero row. -/
def scaleOf (a : EReal) : EReal :=
  Scalar.select (Ideal.cmp .oeq a (Ideal.ofBits .f32 0x00000000#32)) (Ideal.ofBits .f32 0x3F800000#32) (Ideal.div a (Ideal.ofBits .f32 0x42FE0000#32))

def scale (x : Fin 27648 → EReal) : EReal := scaleOf (amax x)

/-- A value rounded to even, clipped to [-127, 127], as an 8-bit code. -/
def quant (q : EReal) : BitVec 8 :=
  Ideal.fptosi 8 (min (Ideal.ofBits .f32 0x42FE0000#32) (max (Ideal.ofBits .f32 0xC2FE0000#32) (Ideal.liftRound Ideal.roundHalfEven q)))

/-- Entry `j` of a row's codes. -/
def code (x : Fin 27648 → EReal) (j : Fin 27648) : BitVec 8 := quant (Ideal.div (rot x j) (scale x))

/-- The sum of products of a row of codes with a column of weight codes, in 32-bit words. -/
def acc (cx w : Fin 27648 → BitVec 8) : BitVec 32 := ∑ k : Fin 27648, (cx k).signExtend 32 * (w k).signExtend 32

/-- One entry of the result. -/
def outv (a : BitVec 32) (s ws b : EReal) : EReal := ((a.toInt : ℝ) : EReal) * s * ws + b
end Cert.Spec
end
-- ==== Proof.Value.SpecFacts.lean ====
/-
  Facts about the shared mathematics: the 256-wide product of the kernel is the 128-wide one of the reference, a product
  with the reciprocal scale is the quotient, and a code's magnitude is at most 127.
-/
module
public import proofs.«01_k».proof.Proof.Value.Spec
@[expose] public section
noncomputable section
namespace Cert.Spec
open Idealize.ShloMosaic

theorem ofBits_127 : Ideal.ofBits .f32 0x42FE0000#32 = ((127 : ℝ) : EReal) := by
  simp [Ideal.ofBits, Ideal.ieee, -EReal.coe_mul]; norm_num

theorem ofBits_neg_127 : Ideal.ofBits .f32 0xC2FE0000#32 = ((-127 : ℝ) : EReal) := by
  simp [Ideal.ofBits, Ideal.ieee, -EReal.coe_mul, -EReal.coe_neg]; norm_num

theorem norm_real : ∃ r : ℝ, 0 ≤ r ∧ norm = (r : EReal) := by
  refine ⟨_, ?_, by unfold norm; simp [Ideal.ofBits, Ideal.ieee, -EReal.coe_mul]; rfl⟩
  positivity

/-- A sum times the normalisation is the sum of the products. -/
theorem sum_mul_norm {ι : Type} (s : Finset ι) (f : ι → EReal) : (∑ k ∈ s, f k) * norm = ∑ k ∈ s, f k * norm := by
  obtain ⟨r, h0, hr⟩ := norm_real
  have hn : (0 : EReal) ≤ norm := by rw [hr]; exact EReal.coe_nonneg.mpr h0
  have ht : norm ≠ ⊤ := by rw [hr]; exact EReal.coe_ne_top r
  classical
  induction s using Finset.induction_on with
  | empty => simp
  | insert a s ha ih =>
    rw [Finset.sum_insert ha, Finset.sum_insert ha, EReal.right_distrib_of_nonneg_of_ne_top hn ht, ih]

/-- Half of a 256-wide row of the kernel's matrix. -/
theorem half_sum (x : Fin 27648 → EReal) (q c h : ℕ) (hq : q < 108) (hc : c < 256) (hh : h < 2) :
    ∑ k : Fin 128, x ⟨256 * q + (128 * h + k.val), by have := k.isLt; omega⟩ * hK (128 * h + k.val) c
      = if h = c / 128 then ∑ k : Fin 128, x ⟨256 * q + (128 * h + k.val), by have := k.isLt; omega⟩ * hR k.val (c % 128) else 0 := by
  have e : ∀ k : Fin 128, hK (128 * h + k.val) c = if h = c / 128 then hR k.val (c % 128) else 0 := fun k => by
    have := k.isLt
    rw [hK_eq _ _ hc, show (128 * h + k.val) / 128 = h by omega, show (128 * h + k.val) % 128 = k.val by omega]
  by_cases hcc : h = c / 128
  · rw [if_pos hcc]
    exact Finset.sum_congr rfl fun k _ => by rw [e k, if_pos hcc]
  · rw [if_neg hcc]
    exact Finset.sum_eq_zero fun k _ => by rw [e k, if_neg hcc, mul_zero]

/-- The kernel's product of a 256-column chunk with its matrix, times the normalisation, is the rotation. -/
theorem rot_eq (x : Fin 27648 → EReal) (q c : ℕ) (hq : q < 108) (hc : c < 256) :
    (∑ k : Fin 256, x ⟨256 * q + k.val, by have := k.isLt; omega⟩ * hK k.val c) * norm = rot x ⟨256 * q + c, by omega⟩ := by
  have hs : (∑ k : Fin 256, x ⟨256 * q + k.val, by have := k.isLt; omega⟩ * hK k.val c)
      = (∑ k : Fin 128, x ⟨256 * q + (128 * 0 + k.val), by have := k.isLt; omega⟩ * hK (128 * 0 + k.val) c)
        + ∑ k : Fin 128, x ⟨256 * q + (128 * 1 + k.val), by have := k.isLt; omega⟩ * hK (128 * 1 + k.val) c := by
    refine (Fin.sum_univ_add (M := EReal) (a := 128) (b := 128) _).trans ?_
    congr 1
  rw [hs, half_sum x q c 0 hq hc (by omega), half_sum x q c 1 hq hc (by omega)]
  have key : ∀ h : ℕ, (hh : h = c / 128) → (∑ k : Fin 128, x ⟨256 * q + (128 * h + k.val), by have := k.isLt; omega⟩ * hR k.val (c % 128)) * norm
      = rot x ⟨256 * q + c, by omega⟩ := fun h hh => by
    rw [sum_mul_norm]; unfold rot
    refine Finset.sum_congr rfl fun k _ => ?_
    rw [mul_assoc]
    have := k.isLt
    congr 2
    · apply Fin.ext; show 256 * q + (128 * h + k.val) = 128 * ((256 * q + c) / 128) + k.val; omega
    · show hR _ _ = hR _ _; congr 1; show c % 128 = (256 * q + c) % 128; omega
  by_cases h0 : 0 = c / 128
  · rw [if_pos h0, if_neg (by omega), add_zero]; exact key 0 h0
  · rw [if_neg h0, if_pos (by omega), zero_add]; exact key 1 (by omega)

/-- A scale is not zero. -/
theorem scaleOf_ne_zero (a : EReal) : scaleOf a ≠ 0 := by
  unfold scaleOf
  by_cases h : a = 0
  · rw [h, Ideal.ofBits_zero_f32, show Ideal.cmp .oeq 0 0 = 1#1 by simp [Ideal.cmp], Ideal.ofBits_one_f32]
    exact one_ne_zero
  · rw [Ideal.ofBits_zero_f32, show Ideal.cmp .oeq a 0 = 0#1 by simp [Ideal.cmp, h], ofBits_127]
    show Ideal.div a _ ≠ 0
    unfold Ideal.div
    rw [if_neg (by norm_num), ← EReal.coe_inv]
    exact mul_ne_zero h (by norm_num)

/-- A product with the reciprocal of a scale is the quotient. -/
theorem mul_recip (v a : EReal) : v * Ideal.div (Ideal.ofBits .f32 0x3F800000#32) (scaleOf a) = Ideal.div v (scaleOf a) := by
  unfold Ideal.div
  rw [if_neg (scaleOf_ne_zero a), if_neg (scaleOf_ne_zero a), Ideal.ofBits_one_f32, one_mul]

/-- A code's magnitude is at most 127. -/
theorem natAbs_quant_le (q : EReal) : (quant q).toInt.natAbs ≤ 127 := by
  unfold quant
  rw [ofBits_127, ofBits_neg_127]
  generalize Ideal.liftRound Ideal.roundHalfEven q = z
  have hlo : ((-127 : ℝ) : EReal) ≤ min ((127 : ℝ) : EReal) (max ((-127 : ℝ) : EReal) z) :=
    le_min (by exact_mod_cast (by norm_num : (-127 : ℝ) ≤ 127)) (le_max_left _ _)
  have hhi : min ((127 : ℝ) : EReal) (max ((-127 : ℝ) : EReal) z) ≤ ((127 : ℝ) : EReal) := min_le_left _ _
  revert hlo hhi
  generalize min ((127 : ℝ) : EReal) (max ((-127 : ℝ) : EReal) z) = y
  intro hlo hhi
  induction y with
  | bot => exact absurd (le_bot_iff.mp hlo) (EReal.coe_ne_bot _)
  | top => exact absurd (top_le_iff.mp hhi) (EReal.coe_ne_top _)
  | coe r =>
    have h1 : (-127 : ℝ) ≤ r := EReal.coe_le_coe_iff.mp hlo
    have h2 : r ≤ (127 : ℝ) := EReal.coe_le_coe_iff.mp hhi
    have hn : -127 ≤ (if 0 ≤ r then ⌊r⌋ else ⌈r⌉) ∧ (if 0 ≤ r then ⌊r⌋ else ⌈r⌉) ≤ 127 := by
      split
      · exact ⟨Int.le_floor.mpr (by exact_mod_cast h1), by
          have : (⌊r⌋ : ℝ) ≤ 127 := (Int.floor_le r).trans h2
          exact_mod_cast this⟩
      · exact ⟨by
          have : (-127 : ℝ) ≤ (⌈r⌉ : ℝ) := h1.trans (Int.le_ceil r)
          exact_mod_cast this, Int.ceil_le.mpr (by exact_mod_cast h2)⟩
    show (BitVec.ofInt 8 (max (-(2 ^ (8 - 1) : ℕ)) (min ((2 ^ (8 - 1) : ℕ) - 1) (if 0 ≤ r then ⌊r⌋ else ⌈r⌉)))).toInt.natAbs ≤ 127
    obtain ⟨ha, hb⟩ := hn
    revert ha hb
    generalize (if 0 ≤ r then ⌊r⌋ else ⌈r⌉) = n
    intro ha hb
    have e : max (-((2 ^ (8 - 1) : ℕ) : ℤ)) (min (((2 ^ (8 - 1) : ℕ) : ℤ) - 1) n) = n := by norm_num; omega
    rw [e, BitVec.toInt_ofInt, Int.bmod_eq_of_le (by norm_num; omega) (by norm_num; omega)]
    omega
end Cert.Spec
end
-- ==== Proof.KernelIdeal.RotatePayload.lean ====
/-
  The rotate body's arithmetic, read at an index over the extended reals: a rotated chunk is a 256-term sum times the
  normalisation, the running maximum is below a bound exactly when every chunk is, the scale is a 127th of the row's
  maximum, and a quantised chunk is the rounded and clipped product with the reciprocal scale.
-/
module
public import proofs.«01_k».proof.Proof.KernelIdeal.RotatePieces
public import proofs.«01_k».proof.Proof.Value.SpecFacts
public import Idealize.ShloMosaic.Lib.Pipeline.ValueKit
@[expose] public section
set_option maxRecDepth 16384
noncomputable section
namespace Cert.KernelIdeal.Whole
open Idealize.ShloMosaic Idealize.ShloMosaic.TcCoe
open Cert.KernelIdeal.Gen

/-- One entry of a rotated chunk. -/
theorem rotChunk_apply (h : Vec Ideal S256x256 .bf16) (x : Vec Ideal S64x256 .bf16) (p : Fin 64) (j : Fin 256) :
    rotChunk h x (ix2 p j) = (∑ k : Fin 256, x (ix2 p k) * h (ix2 k j)) * Cert.Spec.norm := by
  unfold rotChunk k0_pay1
  rw [mulf_apply, shapeCast_self]
  congr 1
  refine (Ideal.matmul_constant_zero_apply (φ₁ := .bf16) (φ₂ := .bf16) dot_S64x256_S256x256_S64x256_1_0_0_1_n_n none x h (ix2 p j)).trans ?_
  refine (Equiv.sum_comp (ValueIdx.contrEquiv1 dot_S64x256_S256x256_S64x256_1_0_0_1_n_n 256 rfl rfl).symm _).symm.trans ?_
  refine Finset.sum_congr rfl fun k _ => ?_
  congr 1
  · exact congrArg x (eq_ix2 _)
  · exact congrArg h (eq_ix2 _)

/-- The running maximum is below a bound exactly when every chunk's absolute value is. -/
theorem runMax_le_iff (P : ℕ → FVec Ideal S64x256 .f32) (n : ℕ) (i : S64x256.Idx) (b : EReal) :
    runMax P n i ≤ b ↔ ∀ k ≤ n, max (P k i) (-(P k i)) ≤ b := by
  induction n with
  | zero =>
    constructor
    · intro h k hk; obtain rfl : k = 0 := Nat.le_zero.mp hk; exact h
    · intro h; exact h 0 (Nat.le_refl 0)
  | succ n ih =>
    have e : runMax P (n + 1) i = max (runMax P n i) (max (P (n + 1) i) (-(P (n + 1) i))) := rfl
    rw [e, max_le_iff, ih]
    constructor
    · rintro ⟨h1, h2⟩ k hk
      by_cases hk' : k ≤ n
      · exact h1 k hk'
      · obtain rfl : k = n + 1 := by omega
        exact h2
    · intro h; exact ⟨fun k hk => h k (by omega), h (n + 1) (Nat.le_refl _)⟩

/-- A row's scale from the lanes' maxima. -/
theorem scale_apply (mx : FVec Ideal S64x256 .f32) (p : Fin 64) (a : EReal)
    (ha : ∀ b, a ≤ b ↔ ∀ l : Fin 256, mx (ix2 p l) ≤ b) : k0_pay253 mx (ix2 p (0 : Fin 1)) = Cert.Spec.scaleOf a := by
  have hm : multiReduction .maximumf [1] S64 mx 0xFF800000#32 reduces_S64x256_S64 (.inl rfl) rfl (ix1 p) = a := by
    refine (Ideal.multiReduction_maximumf_single mx _ _ _ _ (ix1 p)).trans ?_
    refine eq_of_forall_ge_iff fun b => ?_
    rw [Finset.fold_max_le, ha]
    have hbot : (FloatOps.ofBits (F := Ideal) .f32 0xFF800000#32 : EReal) = ⊥ := by
      simp [Ideal.ofBits, Ideal.ieee]
    constructor
    · rintro ⟨_, h⟩ l
      have := h l (Finset.mem_univ _)
      exact (congrArg mx (eq_ix2 (reduces_S64x256_S64.lift (ix1 p) l))).symm.trans_le this
    · intro h
      refine ⟨hbot ▸ bot_le, fun l _ => ?_⟩
      exact (congrArg mx (eq_ix2 (reduces_S64x256_S64.lift (ix1 p) l))).trans_le (h l)
  have hs : shapeCast S64x1 (multiReduction .maximumf [1] S64 mx 0xFF800000#32 reduces_S64x256_S64 (.inl rfl) rfl) shapeCasts_S64_S64x1 (ix2 p (0 : Fin 1)) = a := by
    rw [← hm]; pointwise
  have key : ∀ X : FVec Ideal S64x1 .f32, select (cmpf .oeq X (broadcast S64x1 (FloatOps.ofBits .f32 0x00000000#32)))
      (broadcast S64x1 (FloatOps.ofBits .f32 0x3F800000#32)) (divf X (broadcast S64x1 (FloatOps.ofBits .f32 0x42FE0000#32))) (ix2 p (0 : Fin 1))
      = Cert.Spec.scaleOf (X (ix2 p (0 : Fin 1))) := fun X => rfl
  exact (key _).trans (congrArg Cert.Spec.scaleOf hs)

/-- The reciprocal of a row's scale. -/
theorem recip_apply (mx : FVec Ideal S64x256 .f32) (y : S64x1.Idx) :
    k0_pay254 mx y = Ideal.div (Ideal.ofBits .f32 0x3F800000#32) (k0_pay253 mx y) := by
  unfold k0_pay254; generalize k0_pay253 mx = z; rfl

/-- One entry of a quantised chunk. -/
theorem quantChunk_apply (inv : FVec Ideal S64x1 .f32) (y : Vec Ideal S64x256 .f32) (p : Fin 64) (j : Fin 256) :
    quantChunk inv y (ix2 p j) = Cert.Spec.quant (y (ix2 p j) * inv (ix2 p (0 : Fin 1))) := by
  have hb : broadcastTo S64x256 inv broadcasts_S64x1_S64x256 (ix2 p j) = inv (ix2 p (0 : Fin 1)) := by pointwise
  unfold quantChunk k0_pay259 Cert.Spec.quant
  rw [← hb]
  rfl
end Cert.KernelIdeal.Whole
end
-- ==== Proof.KernelIdeal.RotateValue.lean ====
/-
  What one grid point of the rotate region leaves in its two output blocks, over the extended reals: each row's codes and
  each row's scale, as the shared mathematics of the row of activations the point was given.
-/
module
public import proofs.«01_k».proof.Proof.KernelIdeal.RotatePayload
@[expose] public section
set_option maxRecDepth 16384
noncomputable section
namespace Cert.KernelIdeal.Whole
open Idealize.ShloMosaic Idealize.ShloMosaic.TcCoe
open Cert.KernelIdeal.Gen

/-- A chunk read back from 108 chunk stores is what was stored there. -/
theorem readCov_tile (v : View sig .tc .vmem S64x27648 .f32) (P : Fin 108 → Vec Ideal S64x256 .f32) (k : Fin 108) (p : Fin 64) (j : Fin 256) :
    (v.readCov (View.tilePieces (Val := Elt Ideal) (e := .f32) (NT := 108) (s := S64x27648) ![64, 256] off0 inb0 P 108 (Nat.le_refl _))
        (Rect.unit (s := S64x27648) (off0 k) ![64, 256] (inb0 k)).toLoadRect :
        (Rect.unit (s := S64x27648) (off0 k) ![64, 256] (inb0 k)).shape.Idx → Elt Ideal .f32) (ix2 p j) = P k (ix2 p j) := by
  rw [View.readCov_eq_canon']
  show View.canon (Val := Elt Ideal) (s := S64x27648) (e := .f32) _
    ((Rect.unit (s := S64x27648) (off0 k) ![64, 256] (inb0 k)).toLoadRect.idx (ix2 p j)) = _
  have hy : ∀ a, (((Rect.unit (s := S64x27648) (off0 k) ![64, 256] (inb0 k)).toLoadRect.idx (ix2 p j)) a).val = off0 k a + ((ix2 p j : S64x256.Idx) a).val := fun a =>
    match a with
    | ⟨0, _⟩ => by show 0 + 1 * p.val = 0 + p.val; omega
    | ⟨1, _⟩ => by show 256 * k.val + 1 * j.val = 256 * k.val + j.val; omega
  revert hy
  generalize (Rect.unit (s := S64x27648) (off0 k) ![64, 256] (inb0 k)).toLoadRect.idx (ix2 p j) = y
  intro hy
  rw [← View.read_writes_junk_apply_eq_canon v]
  refine View.read_tilePieces v v.junk ![64, 256] off0 inb0 P 108 (Nat.le_refl _) y k k.isLt (ix2 p j) hy (1 : Fin 2) ?_
  intro k' hk
  have hk' : k'.val ≠ k.val := fun e => hk (Fin.ext e)
  have hj := j.isLt
  have h1 : (y (1 : Fin 2)).val = 256 * k.val + j.val := hy (1 : Fin 2)
  show (y (1 : Fin 2)).val < 256 * k'.val ∨ 256 * k'.val + 256 ≤ (y (1 : Fin 2)).val
  omega

variable (c : Dev nD) (i : grid0.Coords) (arg1 : Memref sig .tc .vmem S64x27648 .bf16) (harg1 : arg1.IsWhole) (arg2 : Memref sig .tc .vmem S256x256 .bf16) (harg2 : arg2.IsWhole) (arg3 : Memref sig .tc .vmem S64x27648 .i8) (harg3 : arg3.IsWhole) (arg4 : Memref sig .tc .vmem S64x1 .f32) (harg4 : arg4.IsWhole) (arg5 : Memref sig .tc .vmem S64x27648 .f32) (harg5 : arg5.IsWhole)
    (x0 : Vec Ideal S64x27648 .bf16) (x1 : Vec Ideal S256x256 .bf16)

/-- An entry of a loaded chunk. -/
theorem ldChunk_apply (k : Fin 108) (p : Fin 64) (j : Fin 256) :
    ldChunk arg1 harg1 x0 k (ix2 p j) = x0 (ix2 p ⟨256 * k.val + j.val, by have := k.isLt; have := j.isLt; omega⟩) := by
  unfold ldChunk
  rw [View.readAt_eq_ld, Memref.IsWhole.read_unread]
  refine congrArg x0 (funext fun a => Fin.ext ?_)
  match a with
  | ⟨0, _⟩ => show 0 + 1 * p.val = p.val; omega
  | ⟨1, _⟩ => show 256 * k.val + 1 * j.val = 256 * k.val + j.val; omega

/-- The loaded matrix is the matrix. -/
theorem ldH_apply (a b : Fin 256) : ldH arg2 harg2 x1 (ix2 a b) = x1 (ix2 a b) := by
  unfold ldH
  rw [View.readAt_eq_ld, Memref.IsWhole.read_unread]
  refine congrArg x1 (funext fun d => Fin.ext ?_)
  match d with
  | ⟨0, _⟩ => show 0 + 1 * a.val = a.val; omega
  | ⟨1, _⟩ => show 0 + 1 * b.val = b.val; omega

variable (hH : ∀ a b : Fin 256, x1 (ix2 a b) = Cert.Spec.hK a.val b.val)
include hH

/-- A rotated chunk is that part of the rotated row. -/
theorem rotChunk_row (k : Fin 108) (p : Fin 64) (j : Fin 256) :
    rotChunk (ldH arg2 harg2 x1) (ldChunk arg1 harg1 x0 k) (ix2 p j)
      = Cert.Spec.rot (fun q => x0 (ix2 p q)) ⟨256 * k.val + j.val, by have := k.isLt; have := j.isLt; omega⟩ := by
  rw [rotChunk_apply, ← Cert.Spec.rot_eq (fun q => x0 (ix2 p q)) k.val j.val k.isLt j.isLt]
  congr 1
  refine Finset.sum_congr rfl fun l _ => ?_
  rw [ldChunk_apply, ldH_apply, hH]

/-- The lanes' maxima of the body bound the row's largest absolute value. -/
theorem bodyMax_le_iff (p : Fin 64) (b : EReal) :
    Cert.Spec.amax (fun q => x0 (ix2 p q)) ≤ b ↔ ∀ l : Fin 256, bodyMax arg1 harg1 arg2 harg2 x0 x1 (ix2 p l) ≤ b := by
  unfold Cert.Spec.amax bodyMax
  rw [iSup_le_iff]
  constructor
  · intro h l
    rw [runMax_le_iff]
    intro k hk
    rw [dif_pos (by omega : k < 108), rotChunk_row arg1 harg1 arg2 harg2 x0 x1 hH]
    exact h _
  · intro h j
    have hj := j.isLt
    have := (runMax_le_iff _ _ _ _).mp (h ⟨j.val % 256, Nat.mod_lt _ (by omega)⟩) (j.val / 256) (by omega)
    rw [dif_pos (by omega : j.val / 256 < 108), rotChunk_row arg1 harg1 arg2 harg2 x0 x1 hH] at this
    have e : (⟨256 * (j.val / 256) + j.val % 256, by omega⟩ : Fin 27648) = j := Fin.ext (by show 256 * (j.val / 256) + j.val % 256 = j.val; omega)
    rwa [e] at this

/-- The body's scale of a row. -/
theorem bodyScale (p : Fin 64) :
    k0_pay253 (bodyMax arg1 harg1 arg2 harg2 x0 x1) (ix2 p (0 : Fin 1)) = Cert.Spec.scale (fun q => x0 (ix2 p q)) :=
  scale_apply _ p _ (bodyMax_le_iff arg1 harg1 arg2 harg2 x0 x1 hH p)

omit hH in
/-- A chunk of the scratch reads back as the rotated chunk stored there. -/
theorem scratch_chunk (k : Fin 108) (p : Fin 64) (j : Fin 256) :
    (arg5.view.readCov (scrPieces arg1 harg1 arg2 harg2 x0 x1) (Rect.unit (s := S64x27648) (off0 k) ![64, 256] (inb0 k)).toLoadRect :
        (Rect.unit (s := S64x27648) (off0 k) ![64, 256] (inb0 k)).shape.Idx → Elt Ideal .f32) (ix2 p j)
      = rotChunk (ldH arg2 harg2 x1) (ldChunk arg1 harg1 x0 k) (ix2 p j) := by
  unfold scrPieces
  rw [readCov_tile]
  unfold k0_pay2 rotChunk
  rw [shapeCast_self]

/-- The scale block a point leaves. -/
theorem out3_at (p : Fin 64) :
    out0_A_3 c i arg1 harg1 arg2 harg2 arg3 harg3 arg4 harg4 arg5 harg5 x0 x1 (ix2 p (0 : Fin 1)) = Cert.Spec.scale (fun q => x0 (ix2 p q)) := by
  unfold out0_A_3
  rw [pieces_scale, View.read_writes_junk_eq_canon, View.canon_cons_unit_lit _ _ _ (fun a => match a with | ⟨0, _⟩ => rfl | ⟨1, _⟩ => rfl)]
  exact bodyScale arg1 harg1 arg2 harg2 x0 x1 hH p

/-- The code block a point leaves. -/
theorem out2_at (p : Fin 64) (j : Fin 27648) :
    out0_A_2 c i arg1 harg1 arg2 harg2 arg3 harg3 arg4 harg4 arg5 harg5 x0 x1 (ix2 p j) = Cert.Spec.code (fun q => x0 (ix2 p q)) j := by
  have hj := j.isLt
  unfold out0_A_2
  rw [pieces_codes]
  refine (View.read_tilePieces VO0_2 _ ![64, 256] off0 inb0 _ 108 (Nat.le_refl _) (ix2 p j) ⟨j.val / 256, by omega⟩ (by show j.val / 256 < 108; omega)
    (ix2 p ⟨j.val % 256, Nat.mod_lt _ (by omega)⟩) ?_ (1 : Fin 2) ?_).trans ?_
  · intro a
    match a with
    | ⟨0, _⟩ => show p.val = 0 + p.val; omega
    | ⟨1, _⟩ => show j.val = 256 * (j.val / 256) + j.val % 256; omega
  · intro k' hk
    have hk' : k'.val ≠ j.val / 256 := fun e => hk (Fin.ext e)
    show j.val < 256 * k'.val ∨ 256 * k'.val + 256 ≤ j.val
    omega
  · rw [quantChunk_apply, scratch_chunk, rotChunk_row arg1 harg1 arg2 harg2 x0 x1 hH, recip_apply, bodyScale arg1 harg1 arg2 harg2 x0 x1 hH]
    have e : (⟨256 * (j.val / 256) + j.val % 256, by omega⟩ : Fin 27648) = j := Fin.ext (by show 256 * (j.val / 256) + j.val % 256 = j.val; omega)
    unfold Cert.Spec.code
    show Cert.Spec.quant (Cert.Spec.rot _ ⟨256 * (j.val / 256) + j.val % 256, _⟩ * _) = _
    rw [e]
    unfold Cert.Spec.scale
    rw [Cert.Spec.mul_recip]
end Cert.KernelIdeal.Whole
end
-- ==== Proof.KernelIdeal.RotateArr.lean ====
/-
  The two arrays the first call leaves, over the extended reals: the codes and the scale of every row, each as the shared
  mathematics of that row of activations.
-/
module
public import proofs.«01_k».proof.Proof.KernelIdeal.RotateValue
public import Idealize.ShloMosaic.Lib.Pipeline.ValueKit
@[expose] public section
set_option maxRecDepth 16384
noncomputable section
namespace Cert.KernelIdeal.Whole
open Idealize.ShloMosaic Idealize.ShloMosaic.TcCoe
open Cert.KernelIdeal.Gen

/-- Which block each window of the first call is on at point `t`. -/
theorem idx0 : ∀ t : Fin cfg0.N, win0_0.index t = ![t.val, 0] ∧ win0_1.index t = ![0, 0] ∧ win0_2.index t = ![t.val, 0]
    ∧ win0_3.index t = ![t.val, 0] := by
  decide +kernel

variable (V : (c : Dev nD) → (b : Ref sig .tc) → Buf (Elt Ideal) ((c : Thread nD τ).loc b)) (c : Dev nD)

/-- Point `t` is given rows `64 t` to `64 t + 63` of the activations, -/
theorem iblk0_0_apply (t : Fin cfg0.N) (p : Fin 64) (j : Fin 27648) (h : 64 * t.val + p.val < 12288) :
    iblk0 V c 0 t (ix2 p j) = V c main_v0 (ix2 (⟨64 * t.val + p.val, h⟩ : Fin 12288) j) := by
  blk_ext [iblk0, idx0 t]

/-- and the whole rotation matrix. -/
theorem iblk0_1_apply (t : Fin cfg0.N) (a b : Fin 256) : iblk0 V c 1 t (ix2 a b) = V c main_cst (ix2 a b) := by
  blk_ext [iblk0, idx0 t]

/-- The codes one point leaves in its block, -/
theorem outs0_codes (hH : ∀ a b : Fin 256, V c main_cst (ix2 a b) = Cert.Spec.hK a.val b.val) (t : Fin cfg0.N) (p : Fin 64)
    (j : Fin 27648) (h : 64 * t.val + p.val < 12288) :
    (outsAt0 V c t).1 (ix2 p j) = Cert.Spec.code (fun q : Fin 27648 => V c main_v0 (ix2 (⟨64 * t.val + p.val, h⟩ : Fin 12288) q)) j := by
  unfold outsAt0
  dsimp only
  refine (out2_at c (grid0.coords t) (ms0_0 t) (hs0_0 t) (ms0_1 t) (hs0_1 t) (ms0_2 t) (hs0_2 t) (ms0_3 t) (hs0_3 t) scM0_0
    (Memref.isWhole_whole _) (iblk0 V c 0 t) (iblk0 V c 1 t) (fun a b => (iblk0_1_apply V c t a b).trans (hH a b)) p j).trans ?_
  have e : (fun q => iblk0 V c 0 t (ix2 p q)) = fun q : Fin 27648 => V c main_v0 (ix2 (⟨64 * t.val + p.val, h⟩ : Fin 12288) q) :=
    funext fun q => iblk0_0_apply V c t p q h
  rw [e]

/-- and the scales. -/
theorem outs0_scales (hH : ∀ a b : Fin 256, V c main_cst (ix2 a b) = Cert.Spec.hK a.val b.val) (t : Fin cfg0.N) (p : Fin 64)
    (h : 64 * t.val + p.val < 12288) :
    (outsAt0 V c t).2 (ix2 p (0 : Fin 1)) = Cert.Spec.scale (fun q : Fin 27648 => V c main_v0 (ix2 (⟨64 * t.val + p.val, h⟩ : Fin 12288) q)) := by
  unfold outsAt0
  dsimp only
  refine (out3_at c (grid0.coords t) (ms0_0 t) (hs0_0 t) (ms0_1 t) (hs0_1 t) (ms0_2 t) (hs0_2 t) (ms0_3 t) (hs0_3 t) scM0_0
    (Memref.isWhole_whole _) (iblk0 V c 0 t) (iblk0 V c 1 t) (fun a b => (iblk0_1_apply V c t a b).trans (hH a b)) p).trans ?_
  exact congrArg Cert.Spec.scale (funext fun q => iblk0_0_apply V c t p q h)

/-- The codes the first call leaves. -/
theorem codes_arr (hH : ∀ a b : Fin 256, V c main_cst (ix2 a b) = Cert.Spec.hK a.val b.val) :
    (dat0 V c).arrAt 2 cfg0.N
      = fun i : S12288x27648.Idx => Cert.Spec.code (fun q : Fin 27648 => V c main_v0 (ix2 (i 0) q)) (i 1) := by
  refine (dat0 V c).arrAt_eq_of_covers 2 _ (by decide +kernel) fun t hf y => ?_
  blk_simp
  rw [after0_2]
  obtain ⟨p, j, rfl⟩ : ∃ (p : Fin 64) (j : Fin 27648), y = ix2 p j := ⟨y (0 : Fin 2), y (1 : Fin 2), eq_ix2 y⟩
  have ht : t.val < 192 := t.isLt
  have h : 64 * t.val + p.val < 12288 := by have := p.isLt; omega
  have e0 : (win0_2.blk t).view.emb (ix2 p j) (0 : Fin 2) = (⟨64 * t.val + p.val, h⟩ : Fin 12288) := by
    refine Fin.ext ?_; blk_simp [idx0 t]; exact congrArg (· + p.val) (Nat.mul_comm _ _)
  have e1 : (win0_2.blk t).view.emb (ix2 p j) (1 : Fin 2) = j := by
    refine Fin.ext ?_; blk_simp [idx0 t]
  rw [e0, e1]
  exact outs0_codes V c hH t p j h

/-- The scales the first call leaves. -/
theorem scales_arr (hH : ∀ a b : Fin 256, V c main_cst (ix2 a b) = Cert.Spec.hK a.val b.val) :
    (dat0 V c).arrAt 3 cfg0.N
      = fun i : S12288x1.Idx => Cert.Spec.scale (fun q : Fin 27648 => V c main_v0 (ix2 (i 0) q)) := by
  refine (dat0 V c).arrAt_eq_of_covers 3 _ (by decide +kernel) fun t hf y => ?_
  blk_simp
  rw [after0_3]
  obtain ⟨p, z, rfl⟩ : ∃ (p : Fin 64) (z : Fin 1), y = ix2 p z := ⟨y (0 : Fin 2), y (1 : Fin 2), eq_ix2 y⟩
  obtain rfl : z = 0 := Subsingleton.elim _ _
  have ht : t.val < 192 := t.isLt
  have h : 64 * t.val + p.val < 12288 := by have := p.isLt; omega
  have e0 : (win0_3.blk t).view.emb (ix2 p (0 : Fin 1)) (0 : Fin 2) = (⟨64 * t.val + p.val, h⟩ : Fin 12288) := by
    refine Fin.ext ?_; blk_simp [idx0 t]; exact congrArg (· + p.val) (Nat.mul_comm _ _)
  rw [e0]
  exact outs0_scales V c hH t p h

end Cert.KernelIdeal.Whole
end
-- ==== Proof.KernelIdeal.MatmulPayload.lean ====
/-
  The words of the second call's payloads: one block's partial product, the running sum, and the dequantised output.
-/
module
public import proofs.«01_k».proof.Proof.Gen.KernelIdeal.Skeleton
public import proofs.«01_k».proof.Proof.Value.SpecFacts
public import Idealize.ShloMosaic.Lib.IntMxu
public import Idealize.ShloMosaic.Lib.Pipeline.ValueKit
public import Mathlib.Data.BitVec
@[expose] public section
set_option maxRecDepth 16384
noncomputable section
namespace Cert.KernelIdeal.Whole
open Idealize.ShloMosaic Idealize.ShloMosaic.TcCoe
open Cert.KernelIdeal.Gen

/-- The word of an exact sum of products is the sum of the products of the sign-extended words. -/
theorem ofInt_sum_mul {ι : Type} (s : Finset ι) (a b : ι → BitVec 8) :
    BitVec.ofInt 32 (∑ k ∈ s, (a k).toInt * (b k).toInt) = ∑ k ∈ s, (a k).signExtend 32 * (b k).signExtend 32 := by
  classical
  induction s using Finset.induction_on with
  | empty => rfl
  | insert x s hx ih =>
    rw [Finset.sum_insert hx, Finset.sum_insert hx, BitVec.ofInt_add, BitVec.ofInt_mul, ih]
    rfl

/-- A word of one block's product, when the codes are at most 127 in magnitude: the unit's sums are exact there. -/
theorem dot_apply (x w : Vec Ideal S1024x1024 .i8) (hx : ∀ i k : Fin 1024, (x (ix2 i k)).toInt.natAbs ≤ 127) (i j : Fin 1024) :
    k1_pay1 x w (ix2 i j) = ∑ k : Fin 1024, (x (ix2 i k)).signExtend 32 * (w (ix2 k j)).signExtend 32 := by
  unfold k1_pay1
  rw [shapeCast_self]
  let d := dot_S1024x1024_S1024x1024_S1024x1024_1_0_0_1_n_n
  let e := (ValueIdx.contrEquiv1 d 1024 rfl rfl).symm
  have el : ∀ k : Fin 1024, d.lhsIdx (ix2 i j) (e k) = ix2 i k := fun k => eq_ix2 _
  have er : ∀ k : Fin 1024, d.rhsIdx (ix2 i j) (e k) = ix2 k j := fun k => eq_ix2 _
  have hS : absDotI8 d x w (ix2 i j) ≤ IntMxuNumerics.v7x.exactUpTo := by
    unfold absDotI8
    rw [← e.sum_comp]
    simp only [el, er]
    refine (Finset.sum_le_card_nsmul Finset.univ _ (127 * 128) fun k _ => ?_).trans (by decide)
    rw [Int.natAbs_mul]
    exact Nat.mul_le_mul (hx i k) (natAbs_toInt_i8_le _)
  refine (matmulI8_exact IntMxuNumerics.v7x d x w _ (ix2 i j) rfl hS).trans ?_
  unfold dotI8
  rw [← e.sum_comp]
  simp only [el, er]
  exact ofInt_sum_mul Finset.univ (fun k => x (ix2 i k)) (fun k => w (ix2 k j))

/-- A word of the dequantised block. -/
theorem outv_apply (a : Vec Ideal S1024x1024 .i32) (s : Vec Ideal S1024x1 .f32) (ws b : Vec Ideal S1x1024 .f32) (i j : Fin 1024) :
    k1_pay4 a s ws b (ix2 i j)
      = Cert.Spec.outv (a (ix2 i j)) (s (ix2 i (0 : Fin 1))) (ws (ix2 (0 : Fin 1) j)) (b (ix2 (0 : Fin 1) j)) := by
  unfold k1_pay4
  simp only [shapeCast_self]
  have e1 : broadcastTo S1024x1024 s broadcasts_S1024x1_S1024x1024 (ix2 i j) = s (ix2 i (0 : Fin 1)) := by pointwise
  have e2 : ∀ z : Vec Ideal S1x1024 .f32, broadcastTo S1024x1024 z broadcasts_S1x1024_S1024x1024 (ix2 i j) = z (ix2 (0 : Fin 1) j) := fun z => by pointwise
  show ((_ : EReal) * broadcastTo S1024x1024 s broadcasts_S1024x1_S1024x1024 (ix2 i j)) * broadcastTo S1024x1024 ws broadcasts_S1x1024_S1024x1024 (ix2 i j)
    + broadcastTo S1024x1024 b broadcasts_S1x1024_S1024x1024 (ix2 i j) = _
  rw [e1, e2, e2]
  rfl

end Cert.KernelIdeal.Whole
end
-- ==== Proof.KernelIdeal.MatmulCases.lean ====
/- The second call of the kernel, `cc1_w8a8_matmul`: its blocks, the conditions of its three branches in closed form,
  and the points at which its output is idle. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The frame claim's post from the frame run's -/

/-! ## The body's branch conditions -/

/-- The condition of the body's `scf.if` 0 (`k1_h1`), from the grid coordinates (the skeleton's scalar chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 27) — by arithmetic of the point. -/
theorem hcond1_0 : ∀ t : Fin cfg1.N, cond1_0 (grid1.coords t) ↔ t.val % 27 = 0 :=
  (fun t => by
    have ht : t.val < 1620 := Nat.lt_of_lt_of_eq t.isLt N_1
    have e0 : (grid1.coords t 0).val = t.val / 135 % 12 := Pipeline.Grid.coords_val t 0 (by decide) rfl
    have e1 : (grid1.coords t 1).val = t.val / 27 % 5 := Pipeline.Grid.coords_val t 1 (by decide) rfl
    have e2 : (grid1.coords t 2).val = t.val / 1 % 27 := Pipeline.Grid.coords_val t 2 (by decide) rfl
    simp only [cond1_0, e0, e1, e2]
    word_cmp
   : ∀ t : Fin grid1.N, cond1_0 (grid1.coords t) ↔ t.val % 27 = 0)

/-- The condition of the body's `scf.if` 1 (`k1_h2`), from the grid coordinates (the skeleton's scalar chain substituted). -/
abbrev cond1_1 (i : grid1.Coords) : Prop := (Scalar.cmpi .ne (Scalar.extui (Scalar.cmpi .sgt (BitVec.ofNat 32 (i 2).val) 0#32)) 0#32) = 1#1
/-- It holds at the points whose coordinates have 1 ≤ i2 — decided over the grid. -/
theorem hcond1_1 : ∀ t : Fin cfg1.N, cond1_1 (grid1.coords t) ↔ 1 ≤ t.val % 27 :=
  (by decide +kernel : ∀ t : Fin grid1.N, cond1_1 (grid1.coords t) ↔ 1 ≤ t.val % 27)

/-- The condition of the body's `scf.if` 2 (`k1_h3`), from the grid coordinates (the skeleton's scalar chain substituted). -/
abbrev cond1_2 (i : grid1.Coords) : Prop := k1_cond3 i = 1#1
/-- It holds at the points ≡ 26 (mod 27) — by arithmetic of the point. -/
theorem hcond1_2 : ∀ t : Fin cfg1.N, cond1_2 (grid1.coords t) ↔ t.val % 27 = 26 :=
  (fun t => by
    have ht : t.val < 1620 := Nat.lt_of_lt_of_eq t.isLt N_1
    have e0 : (grid1.coords t 0).val = t.val / 135 % 12 := Pipeline.Grid.coords_val t 0 (by decide) rfl
    have e1 : (grid1.coords t 1).val = t.val / 27 % 5 := Pipeline.Grid.coords_val t 1 (by decide) rfl
    have e2 : (grid1.coords t 2).val = t.val / 1 % 27 := Pipeline.Grid.coords_val t 2 (by decide) rfl
    simp only [cond1_2, k1_cond3, e0, e1, e2]
    word_cmp
   : ∀ t : Fin grid1.N, cond1_2 (grid1.coords t) ↔ t.val % 27 = 26)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- At the points of case A the printed configuration (`Cfg.idle`) calls output 5 idle: the case stores nothing into it. -/
theorem idleAt1_5_A : ∀ t : Fin cfg1.N, cond1_0 (grid1.coords t) → ¬cond1_1 (grid1.coords t) → ¬cond1_2 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → ¬cond1_2 (grid1.coords t) → (cfg1.win 5).flush t = false := by decide +kernel
/-- At the points of case B the printed configuration (`Cfg.idle`) calls output 5 idle: the case stores nothing into it. -/
theorem idleAt1_5_B : ∀ t : Fin cfg1.N, ¬cond1_0 (grid1.coords t) → cond1_1 (grid1.coords t) → ¬cond1_2 (grid1.coords t) → cfg1.idle 5 (grid1.coords t) = true := by decide +kernel
/-- At the points of case B the pipeline does not write output 5's block back. -/
theorem noFlush1_5_B : ∀ t : Fin cfg1.N, ¬cond1_0 (grid1.coords t) → cond1_1 (grid1.coords t) → ¬cond1_2 (grid1.coords t) → (cfg1.win 5).flush t = false := by decide +kernel
/-- At the points of case C the printed configuration (`Cfg.idle`) calls output 5 live: the case stores into it. -/
theorem liveAt1_5_C : ∀ t : Fin cfg1.N, ¬cond1_0 (grid1.coords t) → cond1_1 (grid1.coords t) → cond1_2 (grid1.coords t) → cfg1.idle 5 (grid1.coords t) = false := by decide +kernel

/-! ## The kernel body on any staging memrefs: a subtype the run finds -/

/-- One staging buffer of output window 5, through which its contents are stated (`View.read_writes_of_cover`: the choice does not matter). -/
abbrev VO1_5 : View sig .tc .vmem S1024x1024 .bf16 := (Memref.whole cc1_stg5_0 : Memref sig .tc .vmem S1024x1024 .bf16).view
/-- Each window's current staging memref at point `t`, spelled as the pipeline passes it (`bodyAt1`), and its wholeness. -/
abbrev ms1_0 (t : Fin cfg1.N) : Memref sig .tc .vmem S1024x1024 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .bf16 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1024x1024 .i32 := Memref.whole cc1_scratch0
/-- The scratch `arg9` the kernel carries between points, as a view: what it holds is stated through it. -/
abbrev VS1_0 : View sig .tc .vmem S1024x1024 .i32 := scM1_0.view

/-- The frame kit's invariant with the scratch operands as memrefs owned at some contents : what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Whole

end
-- ==== Proof.KernelIdeal.MatmulRunA.lean ====
/- One run of the body of `cc1_w8a8_matmul` at the first block of the contraction: the scratch is set. -/
module

public import proofs.«01_k».proof.Proof.KernelIdeal.MatmulCases

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken. -/
noncomputable def kernelRun1_A (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : cond1_0 i) (hc1 : ¬cond1_1 i) (hc2 : ¬cond1_2 i)
    (x0 : Vec F S1024x1024 .i8) (x1 : Vec F S1024x1024 .i8) (x2 : Vec F S1024x1 .f32) (x3 : Vec F S1x1024 .f32) (x4 : Vec F S1x1024 .f32) :
    Σ' (L5 : List (View.Piece (Elt F) S1024x1024 .bf16)), { LS0 : List (View.Piece (Elt F) S1024x1024 .i32) //
      ∀ (xi5 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_w8a8_matmul i arg3 harg3 arg4 harg4 arg5 harg5 arg6 harg6 arg7 harg7 arg8 harg8 arg9 harg9) K } := by
  refine ⟨[], ?_, fun xi5 E K => ?run⟩
  case run =>
    simp only [cc1_w8a8_matmul_eq_skeleton]; unfold cc1_w8a8_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Whole

end
-- ==== Proof.KernelIdeal.MatmulRunB.lean ====
/- One run of the body of `cc1_w8a8_matmul` at a middle block of the contraction: the scratch is added to. -/
module

public import proofs.«01_k».proof.Proof.KernelIdeal.MatmulCases

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken. -/
noncomputable def kernelRun1_B (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) :
    Σ' (L5 : List (View.Piece (Elt F) S1024x1024 .bf16)), { LS0 : List (View.Piece (Elt F) S1024x1024 .i32) //
      ∀ (xi5 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1_w8a8_matmul i arg3 harg3 arg4 harg4 arg5 harg5 arg6 harg6 arg7 harg7 arg8 harg8 arg9 harg9) K } := by
  refine ⟨[], ?_, fun xi5 E K => ?run⟩
  case run =>
    simp only [cc1_w8a8_matmul_eq_skeleton]; unfold cc1_w8a8_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Whole

end
-- ==== Proof.KernelIdeal.MatmulRunC.lean ====
/- One run of the body of `cc1_w8a8_matmul` at the last block of the contraction: the scratch is added to and the output stored. -/
module

public import proofs.«01_k».proof.Proof.KernelIdeal.MatmulCases

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken. -/
noncomputable def kernelRun1_C (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) :
    Σ' (L5 : List (View.Piece (Elt F) S1024x1024 .bf16)), { LS0 : List (View.Piece (Elt F) S1024x1024 .i32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1_w8a8_matmul i arg3 harg3 arg4 harg4 arg5 harg5 arg6 harg6 arg7 harg7 arg8 harg8 arg9 harg9) K } := by
  refine ⟨?_, ?_, fun E K => ?run⟩
  case run =>
    simp only [cc1_w8a8_matmul_eq_skeleton]; unfold cc1_w8a8_matmul_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Whole

end
-- ==== Proof.KernelIdeal.Matmul.lean ====
/- The second call of the kernel, `cc1_w8a8_matmul`, point by point: what its output and its accumulator hold after each
  point, and the obligation the pipeline asks of the body. -/
module

public import proofs.«01_k».proof.Proof.KernelIdeal.MatmulRunA
public import proofs.«01_k».proof.Proof.KernelIdeal.MatmulRunB
public import proofs.«01_k».proof.Proof.KernelIdeal.MatmulRunC

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- Case A stores nothing into output 5 (the window is idle at its points and not written back there). -/
def out1_A_5 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : cond1_0 i) (hc1 : ¬cond1_1 i) (hc2 : ¬cond1_2 i)
    (x0 : Vec F S1024x1024 .i8) (x1 : Vec F S1024x1024 .i8) (x2 : Vec F S1024x1 .f32) (x3 : Vec F S1x1024 .f32) (x4 : Vec F S1x1024 .f32) : Vec F S1024x1024 .bf16 :=
  VO1_5.read (Elt F) (VO1_5.writes (Elt F) VO1_5.junk (kernelRun1_A c i arg3 harg3 arg4 harg4 arg5 harg5 arg6 harg6 arg7 harg7 arg8 harg8 arg9 harg9 hc0 hc1 hc2 x0 x1 x2 x3 x4).1)

/-- Case A's pieces for scratch `arg9`, which the kernel carries between points, cover it: 1 piece of `S1024x1024` tiling it. -/
theorem scover1_A_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : cond1_0 i) (hc1 : ¬cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (y : S1024x1024.Idx) :
    ∃ pc ∈ (kernelRun1_A c i arg3 harg3 arg4 harg4 arg5 harg5 arg6 harg6 arg7 harg7 arg8 harg8 arg9 harg9 hc0 hc1 hc2 x0 x1 x2 x3 x4).2.1, y ∈ pc.1.set :=
  View.cover_of_tiledL (kernelRun1_A c i arg3 harg3 arg4 harg4 arg5 harg5 arg6 harg6 arg7 harg7 arg8 harg8 arg9 harg9 hc0 hc1 hc2 x0 x1 x2 x3 x4).2.1 S1024x1024.size (by sl_kernel_rfl) y

/-- What case A leaves in scratch `arg9`: its pieces read back over junk. -/
def sout1_A_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : cond1_0 i) (hc1 : ¬cond1_1 i) (hc2 : ¬cond1_2 i)
    (x0 : Vec F S1024x1024 .i8) (x1 : Vec F S1024x1024 .i8) (x2 : Vec F S1024x1 .f32) (x3 : Vec F S1x1024 .f32) (x4 : Vec F S1x1024 .f32) : Vec F S1024x1024 .i32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2 x3 x4).2.1)

/-- Case B stores nothing into output 5 (the window is idle at its points and not written back there). -/
def out1_B_5 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) : Vec F S1024x1024 .bf16 :=
  VO1_5.read (Elt F) (VO1_5.writes (Elt F) VO1_5.junk (kernelRun1_B c i arg3 harg3 arg4 harg4 arg5 harg5 arg6 harg6 arg7 harg7 arg8 harg8 arg9 harg9 hc0 hc1 hc2 x0 x1 x2 x3 x4 xs0).1)

/-- Case B's pieces for scratch `arg9`, which the kernel carries between points, cover it: 1 piece of `S1024x1024` tiling it. -/
theorem scover1_B_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) (y : S1024x1024.Idx) :
    ∃ pc ∈ (kernelRun1_B c i arg3 harg3 arg4 harg4 arg5 harg5 arg6 harg6 arg7 harg7 arg8 harg8 arg9 harg9 hc0 hc1 hc2 x0 x1 x2 x3 x4 xs0).2.1, y ∈ pc.1.set :=
  View.cover_of_tiledL (kernelRun1_B c i arg3 harg3 arg4 harg4 arg5 harg5 arg6 harg6 arg7 harg7 arg8 harg8 arg9 harg9 hc0 hc1 hc2 x0 x1 x2 x3 x4 xs0).2.1 S1024x1024.size (by sl_kernel_rfl) y

/-- What case B leaves in scratch `arg9`: its pieces read back over junk. -/
def sout1_B_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : ¬cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) : Vec F S1024x1024 .i32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 x3 x4 xs0).2.1)

/-- Case C's pieces for output 5 tile its block, so they cover it. -/
theorem cover1_C_5 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) (y : S1024x1024.Idx) :
    ∃ pc ∈ (kernelRun1_C c i arg3 harg3 arg4 harg4 arg5 harg5 arg6 harg6 arg7 harg7 arg8 harg8 arg9 harg9 hc0 hc1 hc2 x0 x1 x2 x3 x4 xs0).1, y ∈ pc.1.set :=
  View.cover_of_tiledL (kernelRun1_C c i arg3 harg3 arg4 harg4 arg5 harg5 arg6 harg6 arg7 harg7 arg8 harg8 arg9 harg9 hc0 hc1 hc2 x0 x1 x2 x3 x4 xs0).1 S1024x1024.size (by sl_kernel_rfl) y

/-- What case C leaves in output 5's staging buffer: its pieces read back over junk. -/
def out1_C_5 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) : Vec F S1024x1024 .bf16 :=
  VO1_5.read (Elt F) (VO1_5.writes (Elt F) VO1_5.junk (kernelRun1_C c i arg3 harg3 arg4 harg4 arg5 harg5 arg6 harg6 arg7 harg7 arg8 harg8 arg9 harg9 hc0 hc1 hc2 x0 x1 x2 x3 x4 xs0).1)

/-- Case C's pieces for scratch `arg9`, which the kernel carries between points, cover it: 1 piece of `S1024x1024` tiling it. -/
theorem scover1_C_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) (y : S1024x1024.Idx) :
    ∃ pc ∈ (kernelRun1_C c i arg3 harg3 arg4 harg4 arg5 harg5 arg6 harg6 arg7 harg7 arg8 harg8 arg9 harg9 hc0 hc1 hc2 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 hc2 x0 x1 x2 x3 x4 xs0).2.1 S1024x1024.size (by sl_kernel_rfl) y

/-- What case C leaves in scratch `arg9`: its pieces read back over junk. -/
def sout1_C_0 (c : Dev nD) (i : grid1.Coords) (arg3 : Memref sig .tc .vmem S1024x1024 .i8) (harg3 : arg3.IsWhole) (arg4 : Memref sig .tc .vmem S1024x1024 .i8) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .i32) (harg9 : arg9.IsWhole) (hc0 : ¬cond1_0 i) (hc1 : cond1_1 i) (hc2 : cond1_2 i)
    (x0 : Vec F S1024x1024 .i8) (x1 : Vec F S1024x1024 .i8) (x2 : Vec F S1024x1 .f32) (x3 : Vec F S1x1024 .f32) (x4 : Vec F S1x1024 .f32) (xs0 : Vec F S1024x1024 .i32) : Vec F S1024x1024 .i32 :=
  VS1_0.read (Elt F) (VS1_0.writes (Elt F) VS1_0.junk (kernelRun1_C c i arg3 harg3 arg4 harg4 arg5 harg5 arg6 harg6 arg7 harg7 arg8 harg8 arg9 harg9 hc0 hc1 hc2 x0 x1 x2 x3 x4 xs0).2.1)

/-! ## What the outputs hold after each point -/

/-- THE ACCUMULATION. What the outputs' staging buffers and the scratch the kernel carries between points hold after the body at position `n` (a tuple. -/
def outsAt1 (c : Dev nD) : (n : ℕ) → n < cfg1.N → Vec F S1024x1024 .bf16 × Vec F S1024x1024 .i32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 27 = 0 then
      if h1 : 1 ≤ (n + 1) % 27 then
        False.elim (by have hN : n + 1 < 1620 := lt_of_lt_of_eq hn (show cfg1.N = 1620 from N_1); omega)
      else
        if h2 : (n + 1) % 27 = 26 then
          False.elim (by have hN : n + 1 < 1620 := lt_of_lt_of_eq hn (show cfg1.N = 1620 from N_1); omega)
        else
          (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : 1 ≤ (n + 1) % 27 then
        if h2 : (n + 1) % 27 = 26 then
          (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
        else
          (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        False.elim (by have hN : n + 1 < 1620 := lt_of_lt_of_eq hn (show cfg1.N = 1620 from N_1); omega)

/-- `outsAt1` at a point of case A: that case's contents. -/
theorem outsAt1_A (c : Dev nD) (t : Fin cfg1.N) (h0 : t.val % 27 = 0) (h1 : ¬1 ≤ t.val % 27) (h2 : ¬t.val % 27 = 26) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans ((dif_neg h2).trans rfl))

/-- `outsAt1` at a point of case B: that case's contents, over what the point before left. -/
theorem outsAt1_B (c : Dev nD) (t : Fin cfg1.N) (h0 : ¬t.val % 27 = 0) (h1 : 1 ≤ t.val % 27) (h2 : ¬t.val % 27 = 26) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C: that case's contents, over what the point before left. -/
theorem outsAt1_C (c : Dev nD) (t : Fin cfg1.N) (h0 : ¬t.val % 27 = 0) (h1 : 1 ≤ t.val % 27) (h2 : t.val % 27 = 26) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the one pipeline on core `c`: the arrays as the region finds them (`V`). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents: the proof data's definition projected (`dsimp`), so that `V`. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks (`before1_W`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 1620 := lt_of_lt_of_eq t.isLt (show cfg1.N = 1620 from N_1)
  by_cases h0 : t.val % 27 = 0
  · by_cases h1 : 1 ≤ t.val % 27
    · exfalso; omega
    · by_cases h2 : t.val % 27 = 26
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [Dat.leavesExact_idle (dat1 V c) 5 t (idleAt1_5_A t ((hcond1_0 t).mpr h0) (fun h => h1 ((hcond1_1 t).mp h)) (fun h => h2 ((hcond1_2 t).mp h))) (noFlush1_5_A t ((hcond1_0 t).mpr h0) (fun h => h1 ((hcond1_1 t).mp h)) (fun h => h2 ((hcond1_2 t).mp h)))]
        by_cases hz : t.val = 0
        · rw [PhiS1_castSucc V c t, PhiS1_zero V c _ _ hz, PhiA1_eq]
          rw [outsAt1_A V c t h0 h1 h2]
          unfold sout1_A_0; (try dsimp only)
          iintro ⟨⟨⟨HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HR1 HR2 HR3 HR4 HR5 HR6 HR7 HR8 HS0 Hg]
          · isplitl [HR1 HR2 HR3 HR4 HR5 HR6 HR7 HR8 HS0]
            · isplitl [HR1]; · iexact HR1
              isplitl [HR2]; · iexact HR2
              isplitl [HR3]; · iexact HR3
              isplitl [HR4]; · iexact HR4
              isplitl [HR5]; · iexact HR5
              isplitl [HR6]; · iexact HR6
              isplitl [HR7]; · iexact HR7
              isplitl [HR8]; · iexact HR8
              unfold owns; iexists _; isplitr
              swap; · iexact HS0
              ipureintro; exact View.read_writes_of_cover _ _ _ _ _ (scover1_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
        · rw [PhiS1_castSucc V c t, PhiS1_pos V c _ _ hz]
          rw [outsAt1_A V c t h0 h1 h2]
          unfold sout1_A_0; (try dsimp only)
          iintro ⟨⟨⟨HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
          iapply ((kernelRun1_A c (grid1.coords t) _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexists _; iexact HS0
          iintro ⟨H0, H1, H2, H3, H4, H5, ⟨%es0, HS0⟩⟩
          isplitl [HR1 HR2 HR3 HR4 HR5 HR6 HR7 HR8 HS0 Hg]
          · isplitl [HR1 HR2 HR3 HR4 HR5 HR6 HR7 HR8 HS0]
            · isplitl [HR1]; · iexact HR1
              isplitl [HR2]; · iexact HR2
              isplitl [HR3]; · iexact HR3
              isplitl [HR4]; · iexact HR4
              isplitl [HR5]; · iexact HR5
              isplitl [HR6]; · iexact HR6
              isplitl [HR7]; · iexact HR7
              isplitl [HR8]; · iexact HR8
              unfold owns; iexists _; isplitr
              swap; · iexact HS0
              ipureintro; exact View.read_writes_of_cover _ _ _ _ _ (scover1_A_0 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
  · by_cases h1 : 1 ≤ t.val % 27
    · by_cases h2 : t.val % 27 = 26
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1) ((hcond1_2 t).mpr h2)], after1_5]
        by_cases hz : t.val = 0
        · exfalso; have hN : t.val < 1620 := lt_of_lt_of_eq t.isLt (show cfg1.N = 1620 from N_1); omega
        · rw [PhiS1_castSucc V c t, PhiS1_pos V c _ _ hz]
          rw [outsAt1_C V c t h0 h1 h2]
          unfold out1_C_5 sout1_C_0; (try dsimp only)
          iintro ⟨⟨⟨HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
          iapply ((kernelRun1_C c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) _).2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [HS0]; · iexact HS0
          iintro ⟨H0, H1, H2, H3, H4, ⟨%e5, H5⟩, ⟨%es0, HS0⟩⟩
          isplitl [HR1 HR2 HR3 HR4 HR5 HR6 HR7 HR8 HS0 Hg]
          · isplitl [HR1 HR2 HR3 HR4 HR5 HR6 HR7 HR8 HS0]
            · isplitl [HR1]; · iexact HR1
              isplitl [HR2]; · iexact HR2
              isplitl [HR3]; · iexact HR3
              isplitl [HR4]; · iexact HR4
              isplitl [HR5]; · iexact HR5
              isplitl [HR6]; · iexact HR6
              isplitl [HR7]; · iexact HR7
              isplitl [HR8]; · iexact HR8
              unfold owns; iexists _; isplitr
              swap; · iexact HS0
              ipureintro; exact View.read_writes_of_cover _ _ _ _ _ (scover1_C_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          unfold owns; iexists _; isplitr
          swap; · iexact H5
          ipureintro; exact View.read_writes_of_cover _ _ _ _ _ (cover1_C_5 c _ _ _ _ _ _ _ _ _ _ _ _ _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [Dat.leavesExact_idle (dat1 V c) 5 t (idleAt1_5_B t (fun h => h0 ((hcond1_0 t).mp h)) ((hcond1_1 t).mpr h1) (fun h => h2 ((hcond1_2 t).mp h))) (noFlush1_5_B t (fun h => h0 ((hcond1_0 t).mp h)) ((hcond1_1 t).mpr h1) (fun h => h2 ((hcond1_2 t).mp h)))]
        by_cases hz : t.val = 0
        · exfalso; have hN : t.val < 1620 := lt_of_lt_of_eq t.isLt (show cfg1.N = 1620 from N_1); omega
        · rw [PhiS1_castSucc V c t, PhiS1_pos V c _ _ hz]
          rw [outsAt1_B V c t h0 h1 h2]
          unfold sout1_B_0; (try dsimp only)
          iintro ⟨⟨⟨HR1, HR2, HR3, HR4, HR5, HR6, HR7, HR8, HS0⟩, Hg⟩, Ho, ⟨%d0, H0⟩, ⟨%d1, H1⟩, ⟨%d2, H2⟩, ⟨%d3, H3⟩, ⟨%d4, H4⟩, ⟨%d5, H5⟩⟩
          iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          iintro ⟨H0, H1, H2, H3, H4, H5, ⟨%es0, HS0⟩⟩
          isplitl [HR1 HR2 HR3 HR4 HR5 HR6 HR7 HR8 HS0 Hg]
          · isplitl [HR1 HR2 HR3 HR4 HR5 HR6 HR7 HR8 HS0]
            · isplitl [HR1]; · iexact HR1
              isplitl [HR2]; · iexact HR2
              isplitl [HR3]; · iexact HR3
              isplitl [HR4]; · iexact HR4
              isplitl [HR5]; · iexact HR5
              isplitl [HR6]; · iexact HR6
              isplitl [HR7]; · iexact HR7
              isplitl [HR8]; · iexact HR8
              unfold owns; iexists _; isplitr
              swap; · iexact HS0
              ipureintro; exact View.read_writes_of_cover _ _ _ _ _ (scover1_B_0 c _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR1, HR2, HR3, HR4, HR5, HR6, HR7, HR8, HS0⟩, Hg⟩
  isplitl [HR1 HR2 HR3 HR4 HR5 HR6 HR7 HR8 HS0]
  · isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 1620 := N_1; omega)

end Cert.KernelIdeal.Whole

end
-- ==== Proof.KernelIdeal.MatmulAcc.lean ====
/-
  The accumulator of the second call, point by point over the extended reals: the first point of a run of 27 stores its
  block's product, every later point adds its own, and the last point's output is the dequantised total.
-/
module
public import proofs.«01_k».proof.Proof.KernelIdeal.MatmulPayload
public import proofs.«01_k».proof.Proof.KernelIdeal.Matmul
public import Idealize.ShloMosaic.Lib.Pipeline.ValueKit
@[expose] public section
set_option maxRecDepth 16384
noncomputable section
namespace Cert.KernelIdeal.Whole
open Idealize.ShloMosaic Idealize.ShloMosaic.TcCoe Idealize.ShloMosaic.Tactic
open Cert.KernelIdeal.Gen

/-- Which block each window of the second call is on at point `t`. -/
theorem idx1 : ∀ t : Fin cfg1.N, win1_0.index t = ![t.val / 135, t.val % 27] ∧ win1_1.index t = ![t.val % 27, t.val / 27 % 5]
    ∧ win1_2.index t = ![t.val / 135, 0] ∧ win1_3.index t = ![0, t.val / 27 % 5] ∧ win1_4.index t = ![0, t.val / 27 % 5]
    ∧ win1_5.index t = ![t.val / 135, t.val / 27 % 5] := by
  decide +kernel

variable (V : (c : Dev nD) → (b : Ref sig .tc) → Buf (Elt Ideal) ((c : Thread nD τ).loc b)) (c : Dev nD)

/-- The first point of a run. -/
theorem acc_first (t : Fin cfg1.N) (h : t.val % 27 = 0) :
    (outsAt1 V c t.val t.isLt).2 = k1_pay1 (iblk1 V c 0 t) (iblk1 V c 1 t) := by
  rw [outsAt1_A V c t h (by omega) (by omega)]
  dsimp only
  frame_out
  unfold k1_pay2
  exact shapeCast_self _ _

/-- A middle point of a run. -/
theorem acc_mid (t : Fin cfg1.N) (h : ¬t.val % 27 = 0) (h2 : ¬t.val % 27 = 26) :
    (outsAt1 V c t.val t.isLt).2
      = addi (outsAt1 V c (t.val - 1) (Nat.lt_of_le_of_lt (Nat.sub_le _ _) t.isLt)).2 (k1_pay1 (iblk1 V c 0 t) (iblk1 V c 1 t)) := by
  rw [outsAt1_B V c t h (by omega) h2]
  dsimp only
  frame_out
  rw [(Memref.isWhole_whole cc1_scratch0).read_unread]
  unfold k1_pay3
  exact shapeCast_self _ _

/-- The last point of a run. -/
theorem acc_last (t : Fin cfg1.N) (h2 : t.val % 27 = 26) :
    (outsAt1 V c t.val t.isLt).2
      = addi (outsAt1 V c (t.val - 1) (Nat.lt_of_le_of_lt (Nat.sub_le _ _) t.isLt)).2 (k1_pay1 (iblk1 V c 0 t) (iblk1 V c 1 t)) := by
  rw [outsAt1_C V c t (by omega) (by omega) h2]
  dsimp only
  frame_out
  rw [(Memref.isWhole_whole cc1_scratch0).read_unread]
  unfold k1_pay3
  exact shapeCast_self _ _

/-- The output block after the last point of a run. -/
theorem out_last (t : Fin cfg1.N) (h2 : t.val % 27 = 26) :
    (outsAt1 V c t.val t.isLt).1
      = k1_pay4 (outsAt1 V c t.val t.isLt).2 (iblk1 V c 2 t) (iblk1 V c 3 t) (iblk1 V c 4 t) := by
  rw [outsAt1_C V c t (by omega) (by omega) h2]
  dsimp only
  frame_out

/-- A later point of a run. -/
theorem acc_next (t : Fin cfg1.N) (h : ¬t.val % 27 = 0) :
    (outsAt1 V c t.val t.isLt).2
      = addi (outsAt1 V c (t.val - 1) (Nat.lt_of_le_of_lt (Nat.sub_le _ _) t.isLt)).2 (k1_pay1 (iblk1 V c 0 t) (iblk1 V c 1 t)) := by
  by_cases h2 : t.val % 27 = 26
  · exact acc_last V c t h2
  · exact acc_mid V c t h h2

/-- At the last point of a run the accumulator is the sum of the run's 27 products. -/
theorem acc_sum (t : Fin cfg1.N) (h2 : t.val % 27 = 26) (y : S1024x1024.Idx) :
    (outsAt1 V c t.val t.isLt).2 y
      = ∑ s : Fin 27, k1_pay1 (iblk1 V c 0 ⟨27 * (t.val / 27) + s.val, Pipeline.run_point_lt_of_flush t h2 s⟩)
          (iblk1 V c 1 ⟨27 * (t.val / 27) + s.val, Pipeline.run_point_lt_of_flush t h2 s⟩) y := by
  rw [Pipeline.eq_sum_fin_of_reset_step_apply_of_flush (fun n h => (outsAt1 V c n h).2) 27 (fun _ => (0 : BitVec 32))
    (fun t => k1_pay1 (iblk1 V c 0 t) (iblk1 V c 1 t))
    (fun t h y => by rw [acc_first V c t h]; exact (zero_add _).symm)
    (fun t h y => by rw [acc_next V c t h]; rfl) t h2 y]
  exact zero_add _

/-- The blocks of the second call's inputs, at an index. -/
theorem iblk1_0_apply (t : Fin cfg1.N) (i k : Fin 1024) (r : Fin 12288) (q : Fin 27648) (hr : r.val = 1024 * (t.val / 135) + i.val)
    (hq : q.val = 1024 * (t.val % 27) + k.val) : iblk1 V c 0 t (ix2 i k) = V c main_v1_0 (ix2 r q) := by
  blk_ext [iblk1, idx1 t]
theorem iblk1_1_apply (t : Fin cfg1.N) (k j : Fin 1024) (q : Fin 27648) (n : Fin 5120) (hq : q.val = 1024 * (t.val % 27) + k.val)
    (hn : n.val = 1024 * (t.val / 27 % 5) + j.val) : iblk1 V c 1 t (ix2 k j) = V c main_arg1 (ix2 q n) := by
  blk_ext [iblk1, idx1 t]
theorem iblk1_2_apply (t : Fin cfg1.N) (i : Fin 1024) (r : Fin 12288) (hr : r.val = 1024 * (t.val / 135) + i.val) :
    iblk1 V c 2 t (ix2 i (0 : Fin 1)) = V c main_v1_1 (ix2 r (0 : Fin 1)) := by
  blk_ext [iblk1, idx1 t]
theorem iblk1_3_apply (t : Fin cfg1.N) (j : Fin 1024) (n : Fin 5120) (hn : n.val = 1024 * (t.val / 27 % 5) + j.val) :
    iblk1 V c 3 t (ix2 (0 : Fin 1) j) = V c main_v2 (ix2 (0 : Fin 1) n) := by
  blk_ext [iblk1, idx1 t]
theorem iblk1_4_apply (t : Fin cfg1.N) (j : Fin 1024) (n : Fin 5120) (hn : n.val = 1024 * (t.val / 27 % 5) + j.val) :
    iblk1 V c 4 t (ix2 (0 : Fin 1) j) = V c main_v3 (ix2 (0 : Fin 1) n) := by
  blk_ext [iblk1, idx1 t]

end Cert.KernelIdeal.Whole
end
-- ==== Proof.KernelIdeal.MatmulArr.lean ====
/-
  The array the second call leaves, over the extended reals: every entry is the dequantised total of the 27,648 products of
  its row of codes and its column of weights.
-/
module
public import proofs.«01_k».proof.Proof.KernelIdeal.MatmulAcc
@[expose] public section
set_option maxRecDepth 16384
noncomputable section
namespace Cert.KernelIdeal.Whole
open Idealize.ShloMosaic Idealize.ShloMosaic.TcCoe Idealize.ShloMosaic.Tactic
open Cert.KernelIdeal.Gen

variable (V : (c : Dev nD) → (b : Ref sig .tc) → Buf (Elt Ideal) ((c : Thread nD τ).loc b)) (c : Dev nD)

/-- Entry `(r, n)` of the dequantised product, from the arrays the second call is given. -/
def yAt (r : Fin 12288) (n : Fin 5120) : EReal :=
  Cert.Spec.outv (Cert.Spec.acc (fun q : Fin 27648 => V c main_v1_0 (ix2 r q)) (fun q : Fin 27648 => V c main_arg1 (ix2 q n)))
    (V c main_v1_1 (ix2 r (0 : Fin 1))) (V c main_v2 (ix2 (0 : Fin 1) n)) (V c main_v3 (ix2 (0 : Fin 1) n))

/-- The total of a run, when no code is over 127 in magnitude. -/
theorem acc_total (hb : ∀ (r : Fin 12288) (q : Fin 27648), (V c main_v1_0 (ix2 r q) : BitVec 8).toInt.natAbs ≤ 127)
    (t : Fin cfg1.N) (h2 : t.val % 27 = 26) (i j : Fin 1024) (r : Fin 12288) (n : Fin 5120)
    (hr : r.val = 1024 * (t.val / 135) + i.val) (hn : n.val = 1024 * (t.val / 27 % 5) + j.val) :
    (outsAt1 V c t.val t.isLt).2 (ix2 i j)
      = Cert.Spec.acc (fun q : Fin 27648 => V c main_v1_0 (ix2 r q)) (fun q : Fin 27648 => V c main_arg1 (ix2 q n)) := by
  rw [acc_sum V c t h2]
  unfold Cert.Spec.acc
  refine Eq.trans (Finset.sum_congr rfl fun s _ => dot_apply _ _ ?_ i j) ?_
  · intro i' k
    have hs := s.isLt
    have ht : t.val < 1620 := lt_of_lt_of_eq t.isLt (show cfg1.N = 1620 from N_1)
    have hi := i'.isLt
    have hk := k.isLt
    rw [iblk1_0_apply V c _ i' k ⟨1024 * (t.val / 135) + i'.val, by omega⟩ ⟨1024 * s.val + k.val, by omega⟩
      (by show _ = 1024 * ((27 * (t.val / 27) + s.val) / 135) + i'.val; show 1024 * (t.val / 135) + i'.val = _; omega)
      (by show 1024 * s.val + k.val = 1024 * ((27 * (t.val / 27) + s.val) % 27) + k.val; omega)]
    exact hb _ _
  · refine Fin.sum_mul_add_congr fun s k hl => ?_
    have hs := s.isLt
    have hk := k.isLt
    rw [iblk1_0_apply V c _ i k r ⟨s.val * 1024 + k.val, hl⟩
        (by show r.val = 1024 * ((27 * (t.val / 27) + s.val) / 135) + i.val; omega)
        (by show s.val * 1024 + k.val = 1024 * ((27 * (t.val / 27) + s.val) % 27) + k.val; omega),
      iblk1_1_apply V c _ k j ⟨s.val * 1024 + k.val, hl⟩ n
        (by show s.val * 1024 + k.val = 1024 * ((27 * (t.val / 27) + s.val) % 27) + k.val; omega)
        (by show n.val = 1024 * ((27 * (t.val / 27) + s.val) / 27 % 5) + j.val; omega)]

/-- The array the second call leaves. -/
theorem y_arr (hb : ∀ (r : Fin 12288) (q : Fin 27648), (V c main_v1_0 (ix2 r q) : BitVec 8).toInt.natAbs ≤ 127) :
    (dat1 V c).arrAt 5 cfg1.N = fun i : S12288x5120.Idx => yAt V c (i 0) (i 1) := by
  refine (dat1 V c).arrAt_eq_of_covers 5 _ (by decide +kernel) fun t hf y => ?_
  blk_simp
  rw [after1_5]
  obtain ⟨i, j, rfl⟩ : ∃ (i j : Fin 1024), y = ix2 i j := ⟨y (0 : Fin 2), y (1 : Fin 2), eq_ix2 y⟩
  have ht : t.val < 1620 := lt_of_lt_of_eq t.isLt (show cfg1.N = 1620 from N_1)
  have h2 : t.val % 27 = 26 := (flush1_5 t).mp hf
  have hi := i.isLt
  have hj := j.isLt
  have hr : 1024 * (t.val / 135) + i.val < 12288 := by omega
  have hn : 1024 * (t.val / 27 % 5) + j.val < 5120 := by omega
  have e0 : (win1_5.blk t).view.emb (ix2 i j) (0 : Fin 2) = (⟨1024 * (t.val / 135) + i.val, hr⟩ : Fin 12288) := by
    refine Fin.ext ?_; blk_simp [idx1 t]; exact congrArg (· + i.val) (Nat.mul_comm _ _)
  have e1 : (win1_5.blk t).view.emb (ix2 i j) (1 : Fin 2) = (⟨1024 * (t.val / 27 % 5) + j.val, hn⟩ : Fin 5120) := by
    refine Fin.ext ?_; blk_simp [idx1 t]; exact congrArg (· + j.val) (Nat.mul_comm _ _)
  rw [e0, e1, out_last V c t h2]
  refine (outv_apply _ _ _ _ i j).trans ?_
  rw [acc_total V c hb t h2 i j ⟨_, hr⟩ ⟨_, hn⟩ rfl rfl, iblk1_2_apply V c t i ⟨_, hr⟩ rfl, iblk1_3_apply V c t j ⟨_, hn⟩ rfl,
    iblk1_4_apply V c t j ⟨_, hn⟩ rfl]
  rfl

end Cert.KernelIdeal.Whole
end
-- ==== Proof.KernelIdeal.Run.lean ====
/- The run of @main: the two calls among the host operations, from the launch to the return; the frame. -/
module

public import proofs.«01_k».proof.Proof.KernelIdeal.Rotate
public import proofs.«01_k».proof.Proof.KernelIdeal.Matmul
public import Idealize.ShloMosaic.Lib.Pipeline.RegionsLoop
public import Idealize.ShloMosaic.Lib.Pipeline.FrameSuffix

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along (its `post` is then those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing). -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2` (what the next segment is entered from). -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4` (what the next segment is entered from). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    rw [Pipeline.ownSems0_none]; refine BIBase.Entails.trans (hout1 (V3 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `main_chain`, then the segments' run against that chain by the kernel's definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Every run of @main ends, nothing faulting, with every buffer that outlives a call at the last boundary's contents `W5` and every semaphore counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every run of @main ends, nothing faulting, with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.KernelIdeal.Whole

end
-- ==== Proof.Value.Result.lean ====
/-
  The three results as functions of the four arguments, over the extended reals: what both programs are shown to return.
-/
module
public import proofs.«01_k».proof.Proof.Value.SpecFacts
public import Idealize.ShloMosaic.Lib.Pipeline.ValueKit
@[expose] public section
noncomputable section
namespace Cert.Spec
open Idealize.ShloMosaic

/-- A row of activations. -/
def rowOf (x : (⟨3, ![2, 6144, 27648]⟩ : Shape).Idx → EReal) (b : Fin 2) (s : Fin 6144) : Fin 27648 → EReal := fun q => x (ix3 b s q)

/-- The int8 codes of the rotated activations. -/
def codesRes (x : (⟨3, ![2, 6144, 27648]⟩ : Shape).Idx → EReal) : (⟨3, ![2, 6144, 27648]⟩ : Shape).Idx → BitVec 8 :=
  fun i => code (rowOf x (i 0) (i 1)) (i 2)

/-- The rows' scales. -/
def scalesRes (x : (⟨3, ![2, 6144, 27648]⟩ : Shape).Idx → EReal) : (⟨3, ![2, 6144, 1]⟩ : Shape).Idx → EReal :=
  fun i => scale (rowOf x (i 0) (i 1))

/-- The linear layer's output. -/
def yRes (x : (⟨3, ![2, 6144, 27648]⟩ : Shape).Idx → EReal) (w : (⟨2, ![27648, 5120]⟩ : Shape).Idx → BitVec 8)
    (ws bias : (⟨1, ![5120]⟩ : Shape).Idx → EReal) : (⟨3, ![2, 6144, 5120]⟩ : Shape).Idx → EReal :=
  fun i => outv (acc (code (rowOf x (i 0) (i 1))) fun q => w (ix2 q (i 2))) (scale (rowOf x (i 0) (i 1))) (ws (ix1 (i 2))) (bias (ix1 (i 2)))

end Cert.Spec
end
-- ==== Proof.KernelIdeal.RunValue.lean ====
/-
  The results of the kernel's run over the extended reals: the codes, the scales and the output, each as the shared function
  of the arguments.
-/
module
public import proofs.«01_k».proof.Proof.KernelIdeal.RotateArr
public import proofs.«01_k».proof.Proof.KernelIdeal.MatmulArr
public import proofs.«01_k».proof.Proof.KernelIdeal.Run
public import proofs.«01_k».proof.Proof.Value.Result
public import Idealize.ShloMosaic.Lib.StableHlo.ReadAt
@[expose] public section
set_option maxRecDepth 16384
noncomputable section
namespace Cert.KernelIdeal.Whole
open Idealize.ShloMosaic Idealize.ShloMosaic.TcCoe Idealize.ShloMosaic.Tactic
open Idealize.SL.Sem
open Cert.KernelIdeal.Gen

variable (m : (ℓ : Loc nD τ sig) → Buf (Elt Ideal) ℓ) (ρ : Dev nD → PrngReg) (c : Dev nD)

/-- Row `6144 b + s` of the flattened activations. -/
abbrev flat (b : Fin 2) (s : Fin 6144) : Fin 12288 := ⟨b.val * 6144 + s.val, by have := b.isLt; have := s.isLt; omega⟩

/-- The first call is given the activations with the batch and the sequence flattened, -/
theorem V1_x (b : Fin 2) (s : Fin 6144) (q : Fin 27648) :
    V1 m ρ c main_v0 (ix2 (flat b s) q) = m ((c : Thread nD τ).loc main_arg0) (ix3 b s q) := by
  show StableHlo.after hostOps0 (W0 m ρ c) (Proc.devRef .tc main_v0) (ix2 (flat b s) q) = _
  after_reads_at
  rw [W0_args m ρ c main_arg0 (by decide)]
  have hs := s.isLt
  blk_ext []

/-- and the rotation matrix. -/
theorem V1_h (a b : Fin 256) : V1 m ρ c main_cst (ix2 a b) = Cert.Spec.hK a.val b.val := by
  show StableHlo.after hostOps0 (W0 m ρ c) (Proc.devRef .tc main_cst) (ix2 a b) = _
  after_reads_at
  have ha := a.isLt
  have hb := b.isLt
  have hv : (S256x256.rowMajor (ix2 a b)).val = 256 * a.val + b.val :=
    (Shape.rowMajor_val_two _).trans (by show a.val * 256 + b.val = _; omega)
  have hl : lit0 (S256x256.rowMajor (ix2 a b)) = Cert.KernelIdeal.lit0t (S256x256.rowMajor (ix2 a b)).val := rfl
  rw [hl, hv, Cert.Had.litK_eq _ (by omega)]
  rfl

/-- The codes the first call leaves, -/
theorem V3_codes (b : Fin 2) (s : Fin 6144) (q : Fin 27648) :
    V3 m ρ c main_v1_0 (ix2 (flat b s) q) = Cert.Spec.code (Cert.Spec.rowOf (m ((c : Thread nD τ).loc main_arg0)) b s) q := by
  have e : W3 m ρ c (Proc.devRef .tc main_v1_0) = _ :=
    (W3_of m ρ c main_v1_0 (by decide)).trans ((W2_arr m ρ c 2).trans (codes_arr (V1 m ρ) c (V1_h m ρ c)))
  refine (congrFun e _).trans ?_
  exact congrArg (fun x => Cert.Spec.code x q) (funext fun q' => V1_x m ρ c b s q')

/-- and the scales. -/
theorem V3_scales (b : Fin 2) (s : Fin 6144) :
    V3 m ρ c main_v1_1 (ix2 (flat b s) (0 : Fin 1)) = Cert.Spec.scale (Cert.Spec.rowOf (m ((c : Thread nD τ).loc main_arg0)) b s) := by
  have e : W3 m ρ c (Proc.devRef .tc main_v1_1) = _ :=
    (W3_of m ρ c main_v1_1 (by decide)).trans ((W2_arr m ρ c 3).trans (scales_arr (V1 m ρ) c (V1_h m ρ c)))
  refine (congrFun e _).trans ?_
  exact congrArg Cert.Spec.scale (funext fun q' => V1_x m ρ c b s q')

/-- No code is over 127 in magnitude. -/
theorem V3_bound (r : Fin 12288) (q : Fin 27648) : (V3 m ρ c main_v1_0 (ix2 r q) : BitVec 8).toInt.natAbs ≤ 127 := by
  have e : W3 m ρ c (Proc.devRef .tc main_v1_0) = _ :=
    (W3_of m ρ c main_v1_0 (by decide)).trans ((W2_arr m ρ c 2).trans (codes_arr (V1 m ρ) c (V1_h m ρ c)))
  refine (congrArg (fun z : BitVec 8 => z.toInt.natAbs) (congrFun e (ix2 r q))).trans_le ?_
  exact Cert.Spec.natAbs_quant_le _

/-- The weights' scales and the bias reach the second call as one-row matrices. -/
theorem V3_ws (n : Fin 5120) : V3 m ρ c main_v2 (ix2 (0 : Fin 1) n) = m ((c : Thread nD τ).loc main_arg2) (ix1 n) := by
  show StableHlo.after hostOps1 (W2 m ρ c) (Proc.devRef .tc main_v2) (ix2 (0 : Fin 1) n) = _
  after_reads_at
  rw [W2_args m ρ c main_arg2 (by decide)]
theorem V3_bias (n : Fin 5120) : V3 m ρ c main_v3 (ix2 (0 : Fin 1) n) = m ((c : Thread nD τ).loc main_arg3) (ix1 n) := by
  show StableHlo.after hostOps1 (W2 m ρ c) (Proc.devRef .tc main_v3) (ix2 (0 : Fin 1) n) = _
  after_reads_at
  rw [W2_args m ρ c main_arg3 (by decide)]

/-- The codes the run returns, -/
theorem W5_codes : W5 m ρ c (Proc.devRef .tc main_v6) = Cert.Spec.codesRes (m ((c : Thread nD τ).loc main_arg0)) := by
  funext i
  obtain ⟨b, s, q, rfl⟩ : ∃ (b : Fin 2) (s : Fin 6144) (q : Fin 27648), i = ix3 b s q := ⟨i 0, i 1, i 2, eq_ix3 i⟩
  have e : StableHlo.after hostOps2 (W4 m ρ c) (Proc.devRef .tc main_v6) (ix3 b s q) = W4 m ρ c (Proc.devRef .tc main_v1_0) (ix2 (flat b s) q) := by
    after_reads_at
  refine e.trans ?_
  rw [W4_of m ρ c main_v1_0 (by decide)]
  exact V3_codes m ρ c b s q

/-- the scales -/
theorem W5_scales : W5 m ρ c (Proc.devRef .tc main_v7) = Cert.Spec.scalesRes (m ((c : Thread nD τ).loc main_arg0)) := by
  funext i
  obtain ⟨b, s, z, rfl⟩ : ∃ (b : Fin 2) (s : Fin 6144) (z : Fin 1), i = ix3 b s z := ⟨i 0, i 1, i 2, eq_ix3 i⟩
  obtain rfl : z = 0 := Subsingleton.elim _ _
  have e : StableHlo.after hostOps2 (W4 m ρ c) (Proc.devRef .tc main_v7) (ix3 b s (0 : Fin 1)) = W4 m ρ c (Proc.devRef .tc main_v1_1) (ix2 (flat b s) (0 : Fin 1)) := by
    after_reads_at
  refine e.trans ?_
  rw [W4_of m ρ c main_v1_1 (by decide)]
  exact V3_scales m ρ c b s

/-- and the output. -/
theorem W5_y : W5 m ρ c (Proc.devRef .tc main_v5)
    = Cert.Spec.yRes (m ((c : Thread nD τ).loc main_arg0)) (m ((c : Thread nD τ).loc main_arg1)) (m ((c : Thread nD τ).loc main_arg2))
        (m ((c : Thread nD τ).loc main_arg3)) := by
  funext i
  obtain ⟨b, s, n, rfl⟩ : ∃ (b : Fin 2) (s : Fin 6144) (n : Fin 5120), i = ix3 b s n := ⟨i 0, i 1, i 2, eq_ix3 i⟩
  have e4 : W4 m ρ c (Proc.devRef .tc main_v4) = _ := (W4_arr m ρ c 5).trans (y_arr (V3 m ρ) c (V3_bound m ρ c))
  have ey : yAt (V3 m ρ) c (flat b s) n = Cert.Spec.yRes (m ((c : Thread nD τ).loc main_arg0)) (m ((c : Thread nD τ).loc main_arg1))
      (m ((c : Thread nD τ).loc main_arg2)) (m ((c : Thread nD τ).loc main_arg3)) (ix3 b s n) := by
    unfold yAt
    rw [V3_scales m ρ c b s, V3_ws m ρ c n, V3_bias m ρ c n, funext (V3_codes m ρ c b s)]
    rw [show V3 m ρ c main_arg1 = m ((c : Thread nD τ).loc main_arg1) from W3_args m ρ c main_arg1 (by decide)]
    rfl
  have e : StableHlo.after hostOps2 (W4 m ρ c) (Proc.devRef .tc main_v5) (ix3 b s n) = W4 m ρ c (Proc.devRef .tc main_v4) (ix2 (flat b s) n) := by
    after_reads_at
  refine e.trans ((congrFun e4 _).trans ?_)
  exact ey

/-- The run: every result, the arguments unchanged. -/
theorem run_values : θ_run defs (onTc (τ := τ) (main (F := Ideal))) ⟨m, fun _ => 0, ρ⟩ fun r => ∀ c : Dev nD,
      r.2.mem ((c : Thread nD τ).loc main_v5)
        = Cert.Spec.yRes (m ((c : Thread nD τ).loc main_arg0)) (m ((c : Thread nD τ).loc main_arg1)) (m ((c : Thread nD τ).loc main_arg2))
            (m ((c : Thread nD τ).loc main_arg3))
      ∧ r.2.mem ((c : Thread nD τ).loc main_v6) = Cert.Spec.codesRes (m ((c : Thread nD τ).loc main_arg0))
      ∧ r.2.mem ((c : Thread nD τ).loc main_v7) = Cert.Spec.scalesRes (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
      ⟨(h.1 c _ (mem_uc main_v5 (by decide))).trans (W5_y m ρ c),
       (h.1 c _ (mem_uc main_v6 (by decide))).trans (W5_codes m ρ c),
       (h.1 c _ (mem_uc main_v7 (by decide))).trans (W5_scales m ρ c),
       (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩) (run_all m ρ)

end Cert.KernelIdeal.Whole
end
-- ==== Proof.Value.Doubling.lean ====
/-
  The reference's sign matrix, built by doubling: one step makes `[[X, X], [X, -X]]` from `X`, and if `X` is the sign matrix
  of 2 ^ k rows the step gives the one of 2 ^ (k + 1) rows. Seven steps from the one-by-one matrix give the 128-wide matrix.
-/
module
public import proofs.«01_k».proof.Proof.Value.Spec
public import Idealize.ShloMosaic.Lib.Pipeline.ValueKit
@[expose] public section
noncomputable section
namespace Cert.Had
open Idealize.ShloMosaic

/-- The entry of a sign. -/
def sg (b : Bool) : EReal := if b then -1 else 1

/-- One doubling step, `n` rows to `N`. -/
def quad (n N : ℕ) (h1 : Shape.Concatenates [(⟨2, ![n, n]⟩ : Shape), ⟨2, ![n, n]⟩] ⟨2, ![n, N]⟩ 1)
    (h0 : Shape.Concatenates [(⟨2, ![n, N]⟩ : Shape), ⟨2, ![n, N]⟩] ⟨2, ![N, N]⟩ 0) (X : FVec Ideal ⟨2, ![n, n]⟩ .f32) :
    FVec Ideal ⟨2, ![N, N]⟩ .f32 :=
  concatenate ⟨2, ![N, N]⟩ 0
    [⟨⟨2, ![n, N]⟩, concatenate ⟨2, ![n, N]⟩ 1 [⟨⟨2, ![n, n]⟩, X⟩, ⟨⟨2, ![n, n]⟩, X⟩] h1⟩,
     ⟨⟨2, ![n, N]⟩, concatenate ⟨2, ![n, N]⟩ 1 [⟨⟨2, ![n, n]⟩, X⟩, ⟨⟨2, ![n, n]⟩, Host.negf X⟩] h1⟩] h0

/-- Two square matrices side by side, read at an entry. -/
theorem row_apply {n N : ℕ} (hN : N = n + n) (h1 : Shape.Concatenates [(⟨2, ![n, n]⟩ : Shape), ⟨2, ![n, n]⟩] ⟨2, ![n, N]⟩ 1)
    (X Y : (⟨2, ![n, n]⟩ : Shape).Idx → EReal) (a : Fin n) (b : Fin N) :
    concatenate ⟨2, ![n, N]⟩ 1 [⟨⟨2, ![n, n]⟩, X⟩, ⟨⟨2, ![n, n]⟩, Y⟩] h1 (ix2 a b)
      = if h : b.val < n then X (ix2 a ⟨b.val, h⟩) else Y (ix2 a ⟨b.val - n, by have := b.isLt; omega⟩) := by
  by_cases h : b.val < n
  · rw [dif_pos h]
    exact concatenate_pair_apply_left 1 X Y h1 (ix2 a b) rfl (ix2 a ⟨b.val, h⟩) (fun d => by fin_cases d <;> rfl)
  · rw [dif_neg h]
    refine concatenate_pair_apply_right 1 X Y h1 (ix2 a b) rfl rfl (ix2 a ⟨b.val - n, by have := b.isLt; omega⟩)
      (fun d hd => ?_) ?_
    · fin_cases d
      · rfl
      · exact absurd rfl hd
    · show b.val - n + n = b.val
      omega

/-- A doubling step, read at an entry. -/
theorem quad_apply {n N : ℕ} (hN : N = n + n) (h1 : Shape.Concatenates [(⟨2, ![n, n]⟩ : Shape), ⟨2, ![n, n]⟩] ⟨2, ![n, N]⟩ 1)
    (h0 : Shape.Concatenates [(⟨2, ![n, N]⟩ : Shape), ⟨2, ![n, N]⟩] ⟨2, ![N, N]⟩ 0) (X : FVec Ideal ⟨2, ![n, n]⟩ .f32) (a b : Fin N) (hn : 0 < n) :
    quad n N h1 h0 X (ix2 a b)
      = if n ≤ a.val ∧ n ≤ b.val then -(X (ix2 ⟨a.val % n, Nat.mod_lt _ hn⟩ ⟨b.val % n, Nat.mod_lt _ hn⟩))
        else X (ix2 ⟨a.val % n, Nat.mod_lt _ hn⟩ ⟨b.val % n, Nat.mod_lt _ hn⟩) := by
  have red : ∀ (c : Fin N), c.val % n = if c.val < n then c.val else c.val - n := fun c => by
    have := c.isLt
    split
    · exact Nat.mod_eq_of_lt ‹_›
    · rw [Nat.mod_eq_sub_mod (by omega)]; exact Nat.mod_eq_of_lt (by omega)
  have hb := b.isLt
  have ha := a.isLt
  unfold quad
  by_cases h : a.val < n
  · rw [if_neg (by omega)]
    refine (concatenate_pair_apply_left 0 _ _ h0 (ix2 a b) rfl (ix2 (⟨a.val, h⟩ : Fin n) b) (fun d => by fin_cases d <;> rfl)).trans ?_
    rw [row_apply hN]
    split
    · next hb' =>
      congr 2 <;> exact Fin.ext (by simp only [red, h, hb', if_true])
    · next hb' =>
      congr 2 <;> exact Fin.ext (by simp only [red, h, hb', if_true, if_false])
  · refine (concatenate_pair_apply_right 0 _ _ h0 (ix2 a b) rfl rfl (ix2 (⟨a.val - n, by omega⟩ : Fin n) b) (fun d hd => ?_) ?_).trans ?_
    · fin_cases d
      · exact absurd rfl hd
      · rfl
    · show a.val - n + n = a.val
      omega
    · rw [row_apply hN]
      split
      · next hb' =>
        rw [if_neg (by omega)]
        congr 2 <;> exact Fin.ext (by simp only [red, h, hb', if_true, if_false])
      · next hb' =>
        rw [if_pos (by omega)]
        show -(X _) = -(X _)
        congr 3 <;> exact Fin.ext (by simp only [red, h, hb', if_false])

theorem neg_sg (b : Bool) : -(sg b) = sg (!b) := by
  cases b <;> simp [sg]

/-- A doubling step takes the sign matrix of `2 ^ k` rows to the next. -/
theorem quad_syl (k : ℕ) {n N : ℕ} (hn : n = 2 ^ k) (hN : N = n + n)
    (h1 : Shape.Concatenates [(⟨2, ![n, n]⟩ : Shape), ⟨2, ![n, n]⟩] ⟨2, ![n, N]⟩ 1)
    (h0 : Shape.Concatenates [(⟨2, ![n, N]⟩ : Shape), ⟨2, ![n, N]⟩] ⟨2, ![N, N]⟩ 0) (X : FVec Ideal ⟨2, ![n, n]⟩ .f32)
    (hX : ∀ a b : Fin n, X (ix2 a b) = sg (syl k a.val b.val)) (a b : Fin N) :
    quad n N h1 h0 X (ix2 a b) = sg (syl (k + 1) a.val b.val) := by
  have hp : 0 < n := hn ▸ Nat.two_pow_pos k
  rw [quad_apply hN h1 h0 X a b hp, hX]
  show _ = sg (xor (syl k (a.val % 2 ^ k) (b.val % 2 ^ k)) (Nat.ble (2 ^ k) a.val && Nat.ble (2 ^ k) b.val))
  rw [← hn]
  by_cases h : n ≤ a.val ∧ n ≤ b.val
  · rw [if_pos h, neg_sg, Nat.ble_eq_true_of_le h.1, Nat.ble_eq_true_of_le h.2, Bool.and_self, Bool.xor_true]
  · rw [if_neg h]
    have : (Nat.ble n a.val && Nat.ble n b.val) = false := by
      rw [Bool.and_eq_false_iff]
      rcases Nat.lt_or_ge a.val n with h' | h'
      · left; exact Bool.eq_false_iff.mpr fun e => absurd (Nat.le_of_ble_eq_true e) (by omega)
      · right; exact Bool.eq_false_iff.mpr fun e => absurd (Nat.le_of_ble_eq_true e) (by omega)
    rw [this, Bool.xor_false]

/-- The 128-wide matrix's entry is its sign. -/
theorem hR_sg (a b : Fin 128) : Cert.Spec.hR a.val b.val = sg (syl 7 a.val b.val) := by
  have ha := a.isLt
  have hb := b.isLt
  rw [syl_eq]
  unfold Cert.Spec.hR wordR
  rw [show (128 * a.val + b.val) / 128 = a.val by omega, show (128 * a.val + b.val) % 128 = b.val by omega]
  cases neg a.val b.val
  · exact Ideal.ofBits_one_f32
  · show Ideal.ofBits .f32 0xBF800000#32 = -1
    simp [Ideal.ofBits, Ideal.ieee, -EReal.coe_mul, -EReal.coe_neg]
    norm_num

end Cert.Had
end
-- ==== Proof.ReferenceIdeal.SignMatrix.lean ====
/-
  The reference's host lines up to its sign matrix, over the extended reals: after them the matrix has the entries of the
  128-wide sign matrix, and the activations are the argument's.
-/
module
public import proofs.«01_k».proof.Proof.Gen.ReferenceIdeal.Value
public import proofs.«01_k».proof.Proof.Value.Doubling
public import Idealize.ShloMosaic.Lib.StableHlo.ReadAt
@[expose] public section
set_option maxRecDepth 16384
noncomputable section
namespace Cert.ReferenceIdeal.Whole
open Idealize.ShloMosaic Idealize.ShloMosaic.TcCoe Idealize.ShloMosaic.Tactic
open Cert.ReferenceIdeal.Gen

/-- Two concatenations of equal pairs are equal. -/
theorem pair_congr {α : Type} {t s₁ s₂ : Shape} {a : Fin t.rank} {x₁ y₁ : s₁.Idx → α} {x₂ y₂ : s₂.Idx → α}
    {h : Shape.Concatenates [s₁, s₂] t a} (e₁ : x₁ = y₁) (e₂ : x₂ = y₂) :
    concatenate t a [⟨s₁, x₁⟩, ⟨s₂, x₂⟩] h = concatenate t a [⟨s₁, y₁⟩, ⟨s₂, y₂⟩] h := by
  subst e₁ e₂
  rfl

section Steps
variable (W : Valuation τ sig (Elt Ideal))

/-- The two-by-two matrix, from the one-by-one matrix of 1. -/
theorem step0 : (StableHlo.after hostOps0_1 (StableHlo.after hostOps0 W) (Proc.devRef .tc main_v3) : FVec Ideal S2x2 .f32)
    = Cert.Had.quad 1 2 concatenates_S1x1_S1x1_S1x2_d1 concatenates_S1x2_S1x2_S2x2_d0
        (broadcastInDim S1x1 ![] bcast_S_S1x1 (constant S_ .f32 0x3F800000#32)) := by
  unfold Cert.Had.quad
  after_reads_simp
  simp -implicitDefEqProofs only [StableHlo.TRef.toBuf, StableHlo.TRef.ofBuf, cast_cast, cast_eq]
  refine pair_congr ?_ ?_ <;>
    (after_reads_simp
     simp -implicitDefEqProofs only [StableHlo.TRef.toBuf, StableHlo.TRef.ofBuf, cast_cast, cast_eq]
     refine pair_congr ?_ ?_ <;> after_reads_simp)

/-- The doubling from two rows to four; likewise below, up to 128. -/
theorem step1 : (StableHlo.after hostOps0_3 (StableHlo.after hostOps0_2 W) (Proc.devRef .tc main_v5) : FVec Ideal S4x4 .f32)
    = Cert.Had.quad 2 4 concatenates_S2x2_S2x2_S2x4_d1 concatenates_S2x4_S2x4_S4x4_d0 (W (Proc.devRef .tc main_v3)) := by
  unfold Cert.Had.quad
  after_reads_simp
  simp -implicitDefEqProofs only [StableHlo.TRef.toBuf, StableHlo.TRef.ofBuf, cast_cast, cast_eq]
  refine pair_congr ?_ ?_ <;>
    (after_reads_simp
     simp -implicitDefEqProofs only [StableHlo.TRef.toBuf, StableHlo.TRef.ofBuf, cast_cast, cast_eq]
     refine pair_congr ?_ ?_ <;> after_reads_simp)

theorem step2 : (StableHlo.after hostOps0_5 (StableHlo.after hostOps0_4 W) (Proc.devRef .tc main_v7) : FVec Ideal S8x8 .f32)
    = Cert.Had.quad 4 8 concatenates_S4x4_S4x4_S4x8_d1 concatenates_S4x8_S4x8_S8x8_d0 (W (Proc.devRef .tc main_v5)) := by
  unfold Cert.Had.quad
  after_reads_simp
  simp -implicitDefEqProofs only [StableHlo.TRef.toBuf, StableHlo.TRef.ofBuf, cast_cast, cast_eq]
  refine pair_congr ?_ ?_ <;>
    (after_reads_simp
     simp -implicitDefEqProofs only [StableHlo.TRef.toBuf, StableHlo.TRef.ofBuf, cast_cast, cast_eq]
     refine pair_congr ?_ ?_ <;> after_reads_simp)

theorem step3 : (StableHlo.after hostOps0_7 (StableHlo.after hostOps0_6 W) (Proc.devRef .tc main_v9) : FVec Ideal S16x16 .f32)
    = Cert.Had.quad 8 16 concatenates_S8x8_S8x8_S8x16_d1 concatenates_S8x16_S8x16_S16x16_d0 (W (Proc.devRef .tc main_v7)) := by
  unfold Cert.Had.quad
  after_reads_simp
  simp -implicitDefEqProofs only [StableHlo.TRef.toBuf, StableHlo.TRef.ofBuf, cast_cast, cast_eq]
  refine pair_congr ?_ ?_ <;>
    (after_reads_simp
     simp -implicitDefEqProofs only [StableHlo.TRef.toBuf, StableHlo.TRef.ofBuf, cast_cast, cast_eq]
     refine pair_congr ?_ ?_ <;> after_reads_simp)

theorem step4 : (StableHlo.after hostOps0_9 (StableHlo.after hostOps0_8 W) (Proc.devRef .tc main_v11) : FVec Ideal S32x32 .f32)
    = Cert.Had.quad 16 32 concatenates_S16x16_S16x16_S16x32_d1 concatenates_S16x32_S16x32_S32x32_d0 (W (Proc.devRef .tc main_v9)) := by
  unfold Cert.Had.quad
  after_reads_simp
  simp -implicitDefEqProofs only [StableHlo.TRef.toBuf, StableHlo.TRef.ofBuf, cast_cast, cast_eq]
  refine pair_congr ?_ ?_ <;>
    (after_reads_simp
     simp -implicitDefEqProofs only [StableHlo.TRef.toBuf, StableHlo.TRef.ofBuf, cast_cast, cast_eq]
     refine pair_congr ?_ ?_ <;> after_reads_simp)

theorem step5 : (StableHlo.after hostOps0_11 (StableHlo.after hostOps0_10 W) (Proc.devRef .tc main_v13) : FVec Ideal S64x64 .f32)
    = Cert.Had.quad 32 64 concatenates_S32x32_S32x32_S32x64_d1 concatenates_S32x64_S32x64_S64x64_d0 (W (Proc.devRef .tc main_v11)) := by
  unfold Cert.Had.quad
  after_reads_simp
  simp -implicitDefEqProofs only [StableHlo.TRef.toBuf, StableHlo.TRef.ofBuf, cast_cast, cast_eq]
  refine pair_congr ?_ ?_ <;>
    (after_reads_simp
     simp -implicitDefEqProofs only [StableHlo.TRef.toBuf, StableHlo.TRef.ofBuf, cast_cast, cast_eq]
     refine pair_congr ?_ ?_ <;> after_reads_simp)

theorem step6 : (StableHlo.after hostOps0_13 (StableHlo.after hostOps0_12 W) (Proc.devRef .tc main_v15) : FVec Ideal S128x128 .f32)
    = Cert.Had.quad 64 128 concatenates_S64x64_S64x64_S64x128_d1 concatenates_S64x128_S64x128_S128x128_d0 (W (Proc.devRef .tc main_v13)) := by
  unfold Cert.Had.quad
  after_reads_simp
  simp -implicitDefEqProofs only [StableHlo.TRef.toBuf, StableHlo.TRef.ofBuf, cast_cast, cast_eq]
  refine pair_congr ?_ ?_ <;>
    (after_reads_simp
     simp -implicitDefEqProofs only [StableHlo.TRef.toBuf, StableHlo.TRef.ofBuf, cast_cast, cast_eq]
     refine pair_congr ?_ ?_ <;> after_reads_simp)
end Steps

variable (m : (ℓ : Loc nD τ sig) → Buf (Elt Ideal) ℓ) (c : Dev nD)

/-- The buffers after the lines up to the sign matrix. -/
def U : Valuation τ sig (Elt Ideal) :=
  StableHlo.after hostOps0_13 (StableHlo.after hostOps0_12 (StableHlo.after hostOps0_11 (StableHlo.after hostOps0_10
    (StableHlo.after hostOps0_9 (StableHlo.after hostOps0_8 (StableHlo.after hostOps0_7 (StableHlo.after hostOps0_6
    (StableHlo.after hostOps0_5 (StableHlo.after hostOps0_4 (StableHlo.after hostOps0_3 (StableHlo.after hostOps0_2
    (StableHlo.after hostOps0_1 (StableHlo.after hostOps0 (fun b => m (c, b)))))))))))))))

/-- The remaining lines start from there. -/
theorem V_eq (b : Ref sig .tc) : V m c b = StableHlo.after (List.flatten [hostOps0_14, hostOps0_15, hostOps0_16]) (U m c) (Proc.devRef .tc b) := by
  unfold V U
  simp only [List.flatten_cons, List.flatten_nil, List.append_nil, StableHlo.after_append]

/-- The sign matrix's entries. -/
theorem U_signs (a b : Fin 128) : (U m c (Proc.devRef .tc main_v15) : FVec Ideal S128x128 .f32) (ix2 a b) = Cert.Spec.hR a.val b.val := by
  rw [Cert.Had.hR_sg]
  refine (congrFun (step6 _) _).trans (Cert.Had.quad_syl 6 rfl rfl _ _ _ (fun a b => ?_) a b)
  refine (congrFun (step5 _) _).trans (Cert.Had.quad_syl 5 rfl rfl _ _ _ (fun a b => ?_) a b)
  refine (congrFun (step4 _) _).trans (Cert.Had.quad_syl 4 rfl rfl _ _ _ (fun a b => ?_) a b)
  refine (congrFun (step3 _) _).trans (Cert.Had.quad_syl 3 rfl rfl _ _ _ (fun a b => ?_) a b)
  refine (congrFun (step2 _) _).trans (Cert.Had.quad_syl 2 rfl rfl _ _ _ (fun a b => ?_) a b)
  refine (congrFun (step1 _) _).trans (Cert.Had.quad_syl 1 rfl rfl _ _ _ (fun a b => ?_) a b)
  refine (congrFun (step0 _) _).trans (Cert.Had.quad_syl 0 rfl rfl _ _ _ (fun a b => ?_) a b)
  exact Ideal.ofBits_one_f32

/-- The activations, widened. -/
def widen (x : FVec Ideal S2x6144x27648 .bf16) : FVec Ideal S2x6144x27648 .f32 := extf .f32 x bitsLt_bf16_f32

theorem U_x : (U m c (Proc.devRef .tc main_v0) : FVec Ideal S2x6144x27648 .f32) = widen (m ((c : Thread nD τ).loc main_arg0)) := by
  unfold U widen
  after_reads_simp

/-- The arguments that the later lines read. -/
theorem U_arg2 : U m c (Proc.devRef .tc main_arg2) = m ((c : Thread nD τ).loc main_arg2) := by
  unfold U
  after_reads_simp
theorem U_arg3 : U m c (Proc.devRef .tc main_arg3) = m ((c : Thread nD τ).loc main_arg3) := by
  unfold U
  after_reads_simp

end Cert.ReferenceIdeal.Whole
end
-- ==== Proof.ReferenceIdeal.HostValue.lean ====
/-
  What the reference's host lines compute, over the extended reals: the rotated activations, the rows' scales, and the weights'
  scales and bias as the body of its call reads them.
-/
module
public import proofs.«01_k».proof.Proof.ReferenceIdeal.SignMatrix
public import proofs.«01_k».proof.Proof.Value.Result
public import Idealize.ShloMosaic.Lib.StableHlo.ReadAt
@[expose] public section
set_option maxRecDepth 16384
noncomputable section
namespace Cert.ReferenceIdeal.Whole
open Idealize.ShloMosaic Idealize.ShloMosaic.TcCoe Idealize.ShloMosaic.Tactic
open Cert.ReferenceIdeal.Gen

variable (m : (ℓ : Loc nD τ sig) → Buf (Elt Ideal) ℓ) (c : Dev nD)

/-- The sum the host's dot product of a 128-wide chunk is. -/
theorem rot_sum (x : (⟨3, ![2, 6144, 27648]⟩ : Shape).Idx → EReal) (H : (⟨2, ![128, 128]⟩ : Shape).Idx → EReal)
    (hH : ∀ a b : Fin 128, H (ix2 a b) = Cert.Spec.hR a.val b.val) (b : Fin 2) (s : Fin 6144) (j : Fin 27648)
    (h1 : ∀ k : Fin 128, j.val / 128 * 128 + k.val < 27648) (h2 : j.val % 128 < 128) :
    (∑ k : Fin 128, x (ix3 b s (⟨j.val / 128 * 128 + k.val, h1 k⟩ : Fin 27648))
        * (H (ix2 k (⟨j.val % 128, h2⟩ : Fin 128)) * Ideal.ofBits .f32 0x3DB504F3#32))
      = Cert.Spec.rot (Cert.Spec.rowOf x b s) j := by
  unfold Cert.Spec.rot Cert.Spec.rowOf
  have hj := j.isLt
  refine Finset.sum_congr rfl fun k _ => ?_
  have hk := k.isLt
  have ex : (ix3 b s (⟨j.val / 128 * 128 + k.val, by omega⟩ : Fin 27648) : (⟨3, ![2, 6144, 27648]⟩ : Shape).Idx)
      = ix3 b s (⟨128 * (j.val / 128) + k.val, by omega⟩ : Fin 27648) := by
    congr 1; exact Fin.ext (by show j.val / 128 * 128 + k.val = 128 * (j.val / 128) + k.val; omega)
  rw [hH, ex]
  rfl

/-- What the lines after the sign matrix make of the activations `W main_v0` and the matrix `W main_v15`. -/
theorem after_rot (W : Valuation τ sig (Elt Ideal))
    (hH : ∀ a b : Fin 128, (W (Proc.devRef .tc main_v15) : FVec Ideal S128x128 .f32) (ix2 a b) = Cert.Spec.hR a.val b.val)
    (b : Fin 2) (s : Fin 6144) (j : Fin 27648) :
    (StableHlo.after (List.flatten [hostOps0_14, hostOps0_15, hostOps0_16]) W (Proc.devRef .tc main_v20) : FVec Ideal S2x6144x27648 .f32) (ix3 b s j)
      = Cert.Spec.rot (Cert.Spec.rowOf (W (Proc.devRef .tc main_v0)) b s) j := by
  after_reads_at
  exact rot_sum (W (Proc.devRef .tc main_v0)) (W (Proc.devRef .tc main_v15)) hH b s j _ _

/-- The rotated activations. -/
theorem V_rot (b : Fin 2) (s : Fin 6144) (j : Fin 27648) :
    V m c main_v20 (ix3 b s j) = Cert.Spec.rot (Cert.Spec.rowOf (m ((c : Thread nD τ).loc main_arg0)) b s) j := by
  refine (congrFun (V_eq m c main_v20) (ix3 b s j)).trans ((after_rot (U m c) (U_signs m c) b s j).trans ?_)
  rw [U_x]
  rfl

/-- The weights' scales and the bias, as the body reads them. -/
theorem V_ws (n : Fin 5120) : V m c main_v29 (ix3 (0 : Fin 1) (0 : Fin 1) n) = m ((c : Thread nD τ).loc main_arg2) (ix1 n) := by
  rw [V_eq, ← U_arg2 m c]
  generalize U m c = W
  after_reads_at
theorem V_bias (n : Fin 5120) : V m c main_v30 (ix3 (0 : Fin 1) (0 : Fin 1) n) = m ((c : Thread nD τ).loc main_arg3) (ix1 n) := by
  rw [V_eq, ← U_arg3 m c]
  generalize U m c = W
  after_reads_at

end Cert.ReferenceIdeal.Whole
end
-- ==== Proof.ReferenceIdeal.ScaleValue.lean ====
/-
  The rows' scales as the reference's host lines compute them, over the extended reals.
-/
module
public import proofs.«01_k».proof.Proof.ReferenceIdeal.HostValue
@[expose] public section
set_option maxRecDepth 16384
noncomputable section
namespace Cert.ReferenceIdeal.Whole
open Idealize.ShloMosaic Idealize.ShloMosaic.TcCoe Idealize.ShloMosaic.Tactic
open Cert.ReferenceIdeal.Gen

/-- The rows' largest magnitudes, from the rotated activations. -/
def amaxVec (X : FVec Ideal S2x6144x27648 .f32) : FVec Ideal S2x6144x1 .f32 :=
  broadcastInDim S2x6144x1 ![0, 1] bcast_S2x6144_S2x6144x1_0_1
    (Host.reduce FloatOps.maximumf (Host.absf X) (constant S_ .f32 0xFF800000#32) reducesTo_S2x6144x27648_S2x6144_d2 h_S_)

/-- The rows' scales from their largest magnitudes. -/
def scaleVec (A : FVec Ideal S2x6144x1 .f32) : FVec Ideal S2x6144x1 .f32 :=
  select (cmpf .oeq A (broadcastInDim S2x6144x1 ![] bcast_S_S2x6144x1 (constant S_ .f32 0x00000000#32)))
    (broadcastInDim S2x6144x1 ![] bcast_S_S2x6144x1 (constant S_ .f32 0x3F800000#32))
    (Host.divf A (broadcastInDim S2x6144x1 ![] bcast_S_S2x6144x1 (constant S_ .f32 0x42FE0000#32)))

theorem amaxVec_apply (X : FVec Ideal S2x6144x27648 .f32) (b : Fin 2) (s : Fin 6144) :
    amaxVec X (ix3 b s (0 : Fin 1)) = ⨆ j : Fin 27648, max (X (ix3 b s j)) (-(X (ix3 b s j))) := by
  unfold amaxVec
  pointwise
  refine eq_of_forall_ge_iff fun u => ?_
  rw [Finset.fold_max_le, iSup_le_iff]
  have hbot : (Ideal.ofBits .f32 0xFF800000#32 : EReal) = ⊥ := by
    simp [Ideal.ofBits, Ideal.ieee]
  constructor
  · rintro ⟨_, h⟩ l
    exact h l (Finset.mem_univ _)
  · intro h
    exact ⟨hbot ▸ bot_le, fun l _ => h l⟩

theorem scaleVec_apply (A : FVec Ideal S2x6144x1 .f32) (y : S2x6144x1.Idx) : scaleVec A y = Cert.Spec.scaleOf (A y) := by
  unfold scaleVec
  rfl

variable (m : (ℓ : Loc nD τ sig) → Buf (Elt Ideal) ℓ) (c : Dev nD)

theorem V_scale_eq : (V m c main_v28 : FVec Ideal S2x6144x1 .f32) = scaleVec (amaxVec (V m c main_v20)) := by
  rw [V_eq, V_eq]
  generalize U m c = W
  unfold scaleVec amaxVec
  after_reads_simp
  simp -implicitDefEqProofs only [StableHlo.TRef.toBuf, StableHlo.TRef.ofBuf, cast_cast, cast_eq, id_eq]

/-- The scales the reference returns. -/
theorem V_scale (b : Fin 2) (s : Fin 6144) :
    V m c main_v28 (ix3 b s (0 : Fin 1)) = Cert.Spec.scale (Cert.Spec.rowOf (m ((c : Thread nD τ).loc main_arg0)) b s) := by
  refine (congrFun (V_scale_eq m c) (ix3 b s (0 : Fin 1))).trans ?_
  rw [scaleVec_apply, amaxVec_apply]
  unfold Cert.Spec.scale Cert.Spec.amax
  refine congrArg Cert.Spec.scaleOf (iSup_congr fun j => ?_)
  rw [V_rot m c b s j]

end Cert.ReferenceIdeal.Whole
end
-- ==== Proof.ReferenceIdeal.BodyValue.lean ====
/-
  What the reference's body computes from its operands, over the extended reals: the codes and the dequantised product.
-/
module
public import proofs.«01_k».proof.Proof.ReferenceIdeal.ScaleValue
public import Idealize.ShloMosaic.Lib.WordSum
public import Mathlib.Data.BitVec
@[expose] public section
set_option maxRecDepth 16384
noncomputable section
namespace Cert.ReferenceIdeal.Whole
open Idealize.ShloMosaic Idealize.ShloMosaic.TcCoe Idealize.ShloMosaic.Tactic
open Cert.ReferenceIdeal.Gen

/-- A code. -/
theorem pay1_apply (x : Vec Ideal S2x6144x27648 .f32) (sc : Vec Ideal S2x6144x1 .f32) (b : Fin 2) (s : Fin 6144) (j : Fin 27648) :
    k0_pay1 x sc (ix3 b s j) = Cert.Spec.quant (Ideal.div (x (ix3 b s j)) (sc (ix3 b s (0 : Fin 1)))) := by
  unfold k0_pay1
  simp only [shapeCast_self]
  have e : broadcastTo S2x6144x27648 sc broadcasts_S2x6144x1_S2x6144x27648 (ix3 b s j) = sc (ix3 b s (0 : Fin 1)) := by pointwise
  have k : ∀ B : FVec Ideal S2x6144x27648 .f32, fptosi 8 (minimumf (broadcast S2x6144x27648 (Scalar.ofBits .f32 0x42FE0000#32))
      (maximumf (broadcast S2x6144x27648 (Scalar.ofBits .f32 0xC2FE0000#32)) (roundeven (divf x B)))) (ix3 b s j)
      = Cert.Spec.quant (Ideal.div (x (ix3 b s j)) (B (ix3 b s j))) := fun B => rfl
  rw [k, e]

/-- The words' dot product. -/
def accVec (cx : IVec S2x6144x27648 8) (w : IVec S27648x5120 8) : IVec S2x6144x5120 32 :=
  multiReductionI .add [2] S2x6144x5120
    (muli (broadcastTo S2x6144x27648x5120 (shapeCast S2x6144x27648x1 (extsi 32 cx natLt_8_32) shapeCasts_S2x6144x27648_S2x6144x27648x1) broadcasts_S2x6144x27648x1_S2x6144x27648x5120)
      (broadcastTo S2x6144x27648x5120 (shapeCast S1x1x27648x5120 (extsi 32 w natLt_8_32) shapeCasts_S27648x5120_S1x1x27648x5120) broadcasts_S1x1x27648x5120_S2x6144x27648x5120))
    0#32 reduces_S2x6144x27648x5120_S2x6144x5120 rfl

theorem accVec_apply (cx : IVec S2x6144x27648 8) (w : IVec S27648x5120 8) (b : Fin 2) (s : Fin 6144) (n : Fin 5120) :
    accVec cx w (ix3 b s n) = Cert.Spec.acc (fun q : Fin 27648 => cx (ix3 b s q)) (fun q : Fin 27648 => w (ix2 q n)) := by
  unfold accVec
  pointwise
  rfl

/-- An entry of the output. -/
theorem pay2_apply (x : Vec Ideal S2x6144x27648 .f32) (sc : Vec Ideal S2x6144x1 .f32) (w : Vec Ideal S27648x5120 .i8)
    (sc' : Vec Ideal S2x6144x1 .f32) (ws bs : Vec Ideal S1x1x5120 .f32) (b : Fin 2) (s : Fin 6144) (n : Fin 5120) :
    k0_pay2 x sc w sc' ws bs (ix3 b s n)
      = Cert.Spec.outv (accVec (k0_pay1 x sc) w (ix3 b s n)) (sc' (ix3 b s (0 : Fin 1))) (ws (ix3 (0 : Fin 1) (0 : Fin 1) n))
          (bs (ix3 (0 : Fin 1) (0 : Fin 1) n)) := by
  unfold k0_pay2
  rw [shapeCast_self sc', shapeCast_self ws, shapeCast_self bs]
  have e1 : broadcastTo S2x6144x5120 sc' broadcasts_S2x6144x1_S2x6144x5120 (ix3 b s n) = sc' (ix3 b s (0 : Fin 1)) := by pointwise
  have e2 : ∀ z : Vec Ideal S1x1x5120 .f32, broadcastTo S2x6144x5120 z broadcasts_S1x1x5120_S2x6144x5120 (ix3 b s n) = z (ix3 (0 : Fin 1) (0 : Fin 1) n) :=
    fun z => by pointwise
  have k : ∀ (A : IVec S2x6144x5120 32) (B C D : FVec Ideal S2x6144x5120 .f32), truncf .bf16 (addf (mulf (mulf (sitofp .f32 A) B) C) D) bitsLt_bf16_f32 (ix3 b s n)
      = Cert.Spec.outv (A (ix3 b s n)) (B (ix3 b s n)) (C (ix3 b s n)) (D (ix3 b s n)) := fun A B C D => rfl
  rw [← e1, ← e2 ws, ← e2 bs]
  exact k _ _ _ _

end Cert.ReferenceIdeal.Whole
end
-- ==== Proof.ReferenceIdeal.Blocks.lean ====
/-
  The blocks of the reference's one grid point: each is its whole array.
-/
module
public import proofs.«01_k».proof.Proof.ReferenceIdeal.BodyValue
@[expose] public section
set_option maxRecDepth 16384
noncomputable section
namespace Cert.ReferenceIdeal.Whole
open Idealize.ShloMosaic Idealize.ShloMosaic.TcCoe Idealize.ShloMosaic.Tactic
open Idealize.SL.Sem
open Cert.ReferenceIdeal.Gen

variable (m : (ℓ : Loc nD τ sig) → Buf (Elt Ideal) ℓ) (ρ : Dev nD → PrngReg) (c : Dev nD)

/-- Every window's one block is its whole array. -/
theorem idx : ∀ t : Fin cfg0.N, win0_0.index t = ![0, 0, 0] ∧ win0_1.index t = ![0, 0] ∧ win0_2.index t = ![0, 0, 0]
    ∧ win0_3.index t = ![0, 0, 0] ∧ win0_4.index t = ![0, 0, 0] ∧ win0_5.index t = ![0, 0, 0] ∧ win0_6.index t = ![0, 0, 0] := by
  decide +kernel

/-! Each input's block is its array. -/

theorem emb_0 (t : Fin cfg0.N) (b : Fin 2) (s : Fin 6144) (j : Fin 27648) : (win0_0.blk t).view.emb (ix3 b s j) = ix3 b s j := by
  blk_ext [idx t]
theorem read_0 (X : (c : Dev nD) → (b : Ref sig .tc) → Buf (Elt Ideal) ((c : Thread nD τ).loc b)) (t : Fin cfg0.N) (b : Fin 2) (s : Fin 6144) (j : Fin 27648) :
    ((cfg0.win 0).blk t).view.read (Elt Ideal) (X c (Pipeline.arrRef spec0 0)) (ix3 b s j) = X c main_v20 (ix3 b s j) :=
  congrArg (X c main_v20) (emb_0 t b s j)
theorem iblk_0_apply (t : Fin cfg0.N) (b : Fin 2) (s : Fin 6144) (j : Fin 27648) : iblk m c 0 t (ix3 b s j) = V m c main_v20 (ix3 b s j) := by
  unfold iblk
  exact read_0 c (V m) t b s j

theorem emb_1 (t : Fin cfg0.N) (q : Fin 27648) (n : Fin 5120) : (win0_1.blk t).view.emb (ix2 q n) = ix2 q n := by
  blk_ext [idx t]
theorem read_1 (X : (c : Dev nD) → (b : Ref sig .tc) → Buf (Elt Ideal) ((c : Thread nD τ).loc b)) (t : Fin cfg0.N) (q : Fin 27648) (n : Fin 5120) :
    ((cfg0.win 1).blk t).view.read (Elt Ideal) (X c (Pipeline.arrRef spec0 1)) (ix2 q n) = X c main_arg1 (ix2 q n) :=
  congrArg (X c main_arg1) (emb_1 t q n)
theorem iblk_1_apply (t : Fin cfg0.N) (q : Fin 27648) (n : Fin 5120) : iblk m c 1 t (ix2 q n) = V m c main_arg1 (ix2 q n) := by
  unfold iblk
  exact read_1 c (V m) t q n

theorem emb_2 (t : Fin cfg0.N) (b : Fin 2) (s : Fin 6144) : (win0_2.blk t).view.emb (ix3 b s (0 : Fin 1)) = ix3 b s (0 : Fin 1) := by
  blk_ext [idx t]
theorem read_2 (X : (c : Dev nD) → (b : Ref sig .tc) → Buf (Elt Ideal) ((c : Thread nD τ).loc b)) (t : Fin cfg0.N) (b : Fin 2) (s : Fin 6144) :
    ((cfg0.win 2).blk t).view.read (Elt Ideal) (X c (Pipeline.arrRef spec0 2)) (ix3 b s (0 : Fin 1)) = X c main_v28 (ix3 b s (0 : Fin 1)) :=
  congrArg (X c main_v28) (emb_2 t b s)
theorem iblk_2_apply (t : Fin cfg0.N) (b : Fin 2) (s : Fin 6144) : iblk m c 2 t (ix3 b s (0 : Fin 1)) = V m c main_v28 (ix3 b s (0 : Fin 1)) := by
  unfold iblk
  exact read_2 c (V m) t b s

theorem emb_3 (t : Fin cfg0.N) (n : Fin 5120) : (win0_3.blk t).view.emb (ix3 (0 : Fin 1) (0 : Fin 1) n) = ix3 (0 : Fin 1) (0 : Fin 1) n := by
  blk_ext [idx t]
theorem read_3 (X : (c : Dev nD) → (b : Ref sig .tc) → Buf (Elt Ideal) ((c : Thread nD τ).loc b)) (t : Fin cfg0.N) (n : Fin 5120) :
    ((cfg0.win 3).blk t).view.read (Elt Ideal) (X c (Pipeline.arrRef spec0 3)) (ix3 (0 : Fin 1) (0 : Fin 1) n) = X c main_v29 (ix3 (0 : Fin 1) (0 : Fin 1) n) :=
  congrArg (X c main_v29) (emb_3 t n)
theorem iblk_3_apply (t : Fin cfg0.N) (n : Fin 5120) : iblk m c 3 t (ix3 (0 : Fin 1) (0 : Fin 1) n) = V m c main_v29 (ix3 (0 : Fin 1) (0 : Fin 1) n) := by
  unfold iblk
  exact read_3 c (V m) t n

theorem emb_4 (t : Fin cfg0.N) (n : Fin 5120) : (win0_4.blk t).view.emb (ix3 (0 : Fin 1) (0 : Fin 1) n) = ix3 (0 : Fin 1) (0 : Fin 1) n := by
  blk_ext [idx t]
theorem read_4 (X : (c : Dev nD) → (b : Ref sig .tc) → Buf (Elt Ideal) ((c : Thread nD τ).loc b)) (t : Fin cfg0.N) (n : Fin 5120) :
    ((cfg0.win 4).blk t).view.read (Elt Ideal) (X c (Pipeline.arrRef spec0 4)) (ix3 (0 : Fin 1) (0 : Fin 1) n) = X c main_v30 (ix3 (0 : Fin 1) (0 : Fin 1) n) :=
  congrArg (X c main_v30) (emb_4 t n)
theorem iblk_4_apply (t : Fin cfg0.N) (n : Fin 5120) : iblk m c 4 t (ix3 (0 : Fin 1) (0 : Fin 1) n) = V m c main_v30 (ix3 (0 : Fin 1) (0 : Fin 1) n) := by
  unfold iblk
  exact read_4 c (V m) t n

/-- An output's block index is its array index. -/
theorem emb_5 (t : Fin cfg0.N) (b : Fin 2) (s : Fin 6144) (n : Fin 5120) : (win0_5.blk t).view.emb (ix3 b s n) = ix3 b s n := by
  blk_ext [idx t]
theorem emb_6 (t : Fin cfg0.N) (b : Fin 2) (s : Fin 6144) (j : Fin 27648) : (win0_6.blk t).view.emb (ix3 b s j) = ix3 b s j := by
  blk_ext [idx t]

end Cert.ReferenceIdeal.Whole
end
-- ==== Proof.ReferenceIdeal.RunValue.lean ====
/-
  The results of the reference's run over the extended reals: the codes, the scales and the output, each as the shared
  function of the arguments.
-/
module
public import proofs.«01_k».proof.Proof.ReferenceIdeal.Blocks
@[expose] public section
set_option maxRecDepth 16384
noncomputable section
namespace Cert.ReferenceIdeal.Whole
open Idealize.ShloMosaic Idealize.ShloMosaic.TcCoe Idealize.ShloMosaic.Tactic
open Idealize.SL.Sem
open Cert.ReferenceIdeal.Gen

variable (m : (ℓ : Loc nD τ sig) → Buf (Elt Ideal) ℓ) (ρ : Dev nD → PrngReg) (c : Dev nD)

/-- The codes the body stores. -/
theorem pay1_value (t : Fin cfg0.N) (b : Fin 2) (s : Fin 6144) (j : Fin 27648) :
    k0_pay1 (iblk m c 0 t) (iblk m c 2 t) (ix3 b s j) = Cert.Spec.code (Cert.Spec.rowOf (m ((c : Thread nD τ).loc main_arg0)) b s) j := by
  refine (pay1_apply _ _ b s j).trans ?_
  rw [iblk_0_apply m c t b s j, iblk_2_apply m c t b s, V_rot m c b s j, V_scale m c b s]
  rfl

/-- The array of codes. -/
theorem codes_arr : (dats m 0 c).arrAt 6 cfg0.N = Cert.Spec.codesRes (m ((c : Thread nD τ).loc main_arg0)) := by
  refine (dats m 0 c).arrAt_eq_of_covers 6 _ (by decide +kernel) fun t hf y => ?_
  blk_simp
  rw [after0_6]
  frame_out
  obtain ⟨b, s, j, rfl⟩ : ∃ (b : Fin 2) (s : Fin 6144) (j : Fin 27648), y = ix3 b s j := ⟨y (0 : Fin 3), y (1 : Fin 3), y (2 : Fin 3), eq_ix3 y⟩
  rw [emb_6 t b s j]
  exact pay1_value m c t b s j

/-- The array of outputs. -/
theorem y_arr : (dats m 0 c).arrAt 5 cfg0.N
    = Cert.Spec.yRes (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  frame_out
  obtain ⟨b, s, n, rfl⟩ : ∃ (b : Fin 2) (s : Fin 6144) (n : Fin 5120), y = ix3 b s n := ⟨y (0 : Fin 3), y (1 : Fin 3), y (2 : Fin 3), eq_ix3 y⟩
  rw [emb_5 t b s n]
  refine (pay2_apply _ _ _ _ _ _ b s n).trans ?_
  rw [accVec_apply, iblk_2_apply m c t b s, iblk_3_apply m c t n, iblk_4_apply m c t n, V_scale m c b s, V_ws m c n, V_bias m c n,
    funext (pay1_value m c t b s), funext fun q => iblk_1_apply m c t q n, V_main_arg1 m c]
  rfl

/-- The scales are the array of the third operand. -/
theorem scales_arr : (dats m 0 c).arrAt 2 cfg0.N = Cert.Spec.scalesRes (m ((c : Thread nD τ).loc main_arg0)) := by
  refine ((dats m 0 c).arrAt_in 2 rfl _).trans ((A_eq m c 2).trans ?_)
  funext i
  obtain ⟨b, s, z, rfl⟩ : ∃ (b : Fin 2) (s : Fin 6144) (z : Fin 1), i = ix3 b s z := ⟨i (0 : Fin 3), i (1 : Fin 3), i (2 : Fin 3), eq_ix3 i⟩
  obtain rfl : z = 0 := Subsingleton.elim _ _
  exact V_scale m c b s

/-- The run: every result, the arguments unchanged. -/
theorem run_values : θ_run defs (onTc (τ := τ) (main (F := Ideal))) ⟨m, fun _ => 0, ρ⟩ fun r => ∀ c : Dev nD,
      r.2.mem ((c : Thread nD τ).loc main_v31_0)
        = Cert.Spec.yRes (m ((c : Thread nD τ).loc main_arg0)) (m ((c : Thread nD τ).loc main_arg1)) (m ((c : Thread nD τ).loc main_arg2))
            (m ((c : Thread nD τ).loc main_arg3))
      ∧ r.2.mem ((c : Thread nD τ).loc main_v31_1) = Cert.Spec.codesRes (m ((c : Thread nD τ).loc main_arg0))
      ∧ r.2.mem ((c : Thread nD τ).loc main_v28) = Cert.Spec.scalesRes (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post5 m r h c).trans (y_arr m c), (Value.post6 m r h c).trans (codes_arr m c),
      ((h c).1 2).trans (scales_arr m c), Value.kept_main_arg0 m r h c, Value.kept_main_arg1 m r h c, Value.kept_main_arg2 m r h c,
      Value.kept_main_arg3 m r h c⟩)
    (run_main m ρ)

end Cert.ReferenceIdeal.Whole
end
-- ==== Proof.lean ====
/- The proof of the certificate's claims: each program's frame from the run of its @main, and the equality of the two
   idealized programs' results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.RunValue
public import proofs.«01_k».proof.Proof.ReferenceIdeal.RunValue
public import Idealize.ShloMosaic.Adequacy
public import Idealize.ShloMosaic.Init

@[expose] public section

noncomputable section

namespace Cert.Proof

open Idealize.ShloMosaic Idealize.SL.Sem Cert.Kernel

/-- Both programs return the same three functions of the arguments: the output, the codes and the scales. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, Cert.KernelIdeal.Whole.run_values m g, (θ_run _ _ _).mono (fun r h c => ?_) (Cert.ReferenceIdeal.Whole.run_values m' g')⟩
  obtain ⟨h0, h1, h2, hk⟩ := h c
  obtain ⟨a0, a1, a2, a3⟩ := hargs c
  refine ⟨h0.trans ?_, h1.trans ?_, h2.trans ?_, hk⟩
  · rw [a0, a1, a2, a3]
  · rw [a0]
  · rw [a0]

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ,
  fun m ρ _ => Cert.ReferenceIdeal.Gen.frame m ρ, trivial, algebraic⟩

end Cert.Proof

end
